-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![32, 512, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = Layout.block ⟨3, ![1, 512, 1024]⟩ ⟨3, ![32, 512, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S32x512x1024 : Shape := ⟨3, ![32, 512, 1024]⟩
abbrev S31 : Shape := ⟨1, ![31]⟩
abbrev S_ : Shape := ⟨0, ![]⟩
abbrev S1 : Shape := ⟨1, ![1]⟩
abbrev S32x512x8x128 : Shape := ⟨4, ![32, 512, 8, 128]⟩
abbrev S32x8x512x512 : Shape := ⟨4, ![32, 8, 512, 512]⟩
abbrev S32x8x512 : Shape := ⟨3, ![32, 8, 512]⟩
abbrev S32x8x512x1 : Shape := ⟨4, ![32, 8, 512, 1]⟩
abbrev S32x8x128x512 : Shape := ⟨4, ![32, 8, 128, 512]⟩
abbrev S32x512x8x1 : Shape := ⟨4, ![32, 512, 8, 1]⟩
abbrev S2x512x1024 : Shape := ⟨3, ![2, 512, 1024]⟩

abbrev nBuf : Space → Nat
  | .hbm => 40
  | .vmem => 6
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S512x1024, .bf16⟩
  | .hbm, ⟨6, _⟩ => ⟨S32x512x1024, .bf16⟩
  | .hbm, ⟨7, _⟩ => ⟨S32x512x1024, .f32⟩
  | .hbm, ⟨8, _⟩ => ⟨S32x512x1024, .bf16⟩
  | .hbm, ⟨9, _⟩ => ⟨S32x512x8x128, .bf16⟩
  | .hbm, ⟨10, _⟩ => ⟨S32x512x1024, .f32⟩
  | .hbm, ⟨11, _⟩ => ⟨S32x512x1024, .bf16⟩
  | .hbm, ⟨12, _⟩ => ⟨S32x512x8x128, .bf16⟩
  | .hbm, ⟨13, _⟩ => ⟨S32x512x1024, .f32⟩
  | .hbm, ⟨14, _⟩ => ⟨S32x512x1024, .bf16⟩
  | .hbm, ⟨15, _⟩ => ⟨S32x512x8x128, .bf16⟩
  | .hbm, ⟨16, _⟩ => ⟨S32x8x512x512, .f32⟩
  | .hbm, ⟨17, _⟩ => ⟨S_, .f32⟩
  | .hbm, ⟨18, _⟩ => ⟨S32x8x512x512, .f32⟩
  | .hbm, ⟨19, _⟩ => ⟨S32x8x512x512, .f32⟩
  | .hbm, ⟨20, _⟩ => ⟨S_, .f32⟩
  | .hbm, ⟨21, _⟩ => ⟨S32x8x512, .f32⟩
  | .hbm, ⟨22, _⟩ => ⟨S32x8x512x1, .f32⟩
  | .hbm, ⟨23, _⟩ => ⟨S32x8x512x512, .f32⟩
  | .hbm, ⟨24, _⟩ => ⟨S32x8x512x512, .f32⟩
  | .hbm, ⟨25, _⟩ => ⟨S32x8x512x512, .f32⟩
  | .hbm, ⟨26, _⟩ => ⟨S_, .f32⟩
  | .hbm, ⟨27, _⟩ => ⟨S32x8x512, .f32⟩
  | .hbm, ⟨28, _⟩ => ⟨S32x8x512x1, .f32⟩
  | .hbm, ⟨29, _⟩ => ⟨S32x8x512x512, .bf16⟩
  | .hbm, ⟨30, _⟩ => ⟨S32x8x128x512, .f32⟩
  | .hbm, ⟨31, _⟩ => ⟨S32x512x8x128, .f32⟩
  | .hbm, ⟨32, _⟩ => ⟨S32x512x8x1, .f32⟩
  | .hbm, ⟨33, _⟩ => ⟨S32x512x8x128, .f32⟩
  | .hbm, ⟨34, _⟩ => ⟨S32x512x8x128, .f32⟩
  | .hbm, ⟨35, _⟩ => ⟨S32x512x1024, .f32⟩
  | .hbm, ⟨36, _⟩ => ⟨S32x512x1024, .bf16⟩
  | .hbm, ⟨37, _⟩ => ⟨S32x512x1024, .f32⟩
  | .hbm, ⟨38, _⟩ => ⟨S512x1024, .f32⟩
  | .hbm, ⟨39, _⟩ => ⟨S1x512x1024, .f32⟩
  | .local _ .vmem, ⟨0, _⟩ => ⟨S512x1024, .bf16⟩
  | .local _ .vmem, ⟨1, _⟩ => ⟨S32x512x1024, .bf16⟩
  | .local _ .vmem, ⟨2, _⟩ => ⟨S512x1024, .f32⟩
  | .local _ .vmem, ⟨3, _⟩ => ⟨S2x512x1024, .f32⟩
  | .local _ .vmem, ⟨4, _⟩ => ⟨S2x512x1024, .f32⟩
  | .local _ .vmem, ⟨5, _⟩ => ⟨S512x1024, .f32⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => false
  | ⟨1, _⟩ => true
  | ⟨2, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 3 128 bufScoped semScoped dmaSemScoped tileCredit tileCredit_eq_zero tileCredit_pos).withBarriers [(0, 0), (1, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_scratch0 : Ref sig .tc := ⟨.vmem, 3, rfl⟩
abbrev cc1_scratch1 : Ref sig .tc := ⟨.vmem, 4, rfl⟩
abbrev cc1_scratch2 : Ref sig .tc := ⟨.vmem, 5, rfl⟩
abbrev cc0_sem0_0 : DmaSem sig := 0
abbrev cc0_sem1_0 : DmaSem sig := 1
abbrev cc1_sem0_0 : DmaSem sig := 64
abbrev barrier0 : Sem sig := 0
abbrev barrier1 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v16 : Index := Scalar.indexCast v2
  let c0_11 : Index := 0#32
  let c0_12 : Index := 0#32
  ![v16.toNat, 0, 0]
def k0_off2 (d0 : Dev nD) (c0_i32_13 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v18 : BitVec 32 := Scalar.subi v2 c0_i32_13
  let c64_i32 : BitVec 32 := 64#32
  let v19 : BitVec 32 := Scalar.addi v18 c64_i32
  let c32_i32_14 : BitVec 32 := 32#32
  let v20 : BitVec 32 := Scalar.remsi v19 c32_i32_14
  let c0_i32_19 : BitVec 32 := 0#32
  let c0_i32_20 : BitVec 32 := 0#32
  ![v20.toNat, 0, 0]
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_17 : BitVec 32 := 1#32
  let v21 : BitVec 32 := Scalar.muli v7 c1_i32_17
  let v22 : BitVec 32 := Scalar.addi c0_i32_18 v21
  v22.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_43 : BitVec 32 := 1#32
  let v48 : BitVec 32 := Scalar.muli v7 c1_i32_43
  let v49 : BitVec 32 := Scalar.addi c0_i32_44 v48
  v49.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_69 : BitVec 32 := 1#32
  let v75 : BitVec 32 := Scalar.muli v7 c1_i32_69
  let v76 : BitVec 32 := Scalar.addi c0_i32_70 v75
  v76.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_94 : BitVec 32 := 1#32
  let v102 : BitVec 32 := Scalar.muli v7 c1_i32_94
  let v103 : BitVec 32 := Scalar.addi c0_i32_95 v102
  v103.toNat
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_119 : BitVec 32 := 1#32
  let v129 : BitVec 32 := Scalar.muli v7 c1_i32_119
  let v130 : BitVec 32 := Scalar.addi c0_i32_120 v129
  v130.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_144 : BitVec 32 := 1#32
  let v156 : BitVec 32 := Scalar.muli v7 c1_i32_144
  let v157 : BitVec 32 := Scalar.addi c0_i32_145 v156
  v157.toNat
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_169 : BitVec 32 := 1#32
  let v183 : BitVec 32 := Scalar.muli v7 c1_i32_169
  let v184 : BitVec 32 := Scalar.addi c0_i32_170 v183
  v184.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_194 : BitVec 32 := 1#32
  let v210 : BitVec 32 := Scalar.muli v7 c1_i32_194
  let v211 : BitVec 32 := Scalar.addi c0_i32_195 v210
  v211.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_219 : BitVec 32 := 1#32
  let v237 : BitVec 32 := Scalar.muli v7 c1_i32_219
  let v238 : BitVec 32 := Scalar.addi c0_i32_220 v237
  v238.toNat
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_244 : BitVec 32 := 1#32
  let v264 : BitVec 32 := Scalar.muli v7 c1_i32_244
  let v265 : BitVec 32 := Scalar.addi c0_i32_245 v264
  v265.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_269 : BitVec 32 := 1#32
  let v291 : BitVec 32 := Scalar.muli v7 c1_i32_269
  let v292 : BitVec 32 := Scalar.addi c0_i32_270 v291
  v292.toNat
def k0_dev14 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_294 : BitVec 32 := 1#32
  let v318 : BitVec 32 := Scalar.muli v7 c1_i32_294
  let v319 : BitVec 32 := Scalar.addi c0_i32_295 v318
  v319.toNat
def k0_dev15 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_319 : BitVec 32 := 1#32
  let v345 : BitVec 32 := Scalar.muli v7 c1_i32_319
  let v346 : BitVec 32 := Scalar.addi c0_i32_320 v345
  v346.toNat
def k0_dev16 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_344 : BitVec 32 := 1#32
  let v372 : BitVec 32 := Scalar.muli v7 c1_i32_344
  let v373 : BitVec 32 := Scalar.addi c0_i32_345 v372
  v373.toNat
def k0_dev17 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_369 : BitVec 32 := 1#32
  let v399 : BitVec 32 := Scalar.muli v7 c1_i32_369
  let v400 : BitVec 32 := Scalar.addi c0_i32_370 v399
  v400.toNat
def k0_dev18 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_394 : BitVec 32 := 1#32
  let v426 : BitVec 32 := Scalar.muli v7 c1_i32_394
  let v427 : BitVec 32 := Scalar.addi c0_i32_395 v426
  v427.toNat
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_419 : BitVec 32 := 1#32
  let v453 : BitVec 32 := Scalar.muli v7 c1_i32_419
  let v454 : BitVec 32 := Scalar.addi c0_i32_420 v453
  v454.toNat
def k0_dev20 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_444 : BitVec 32 := 1#32
  let v480 : BitVec 32 := Scalar.muli v7 c1_i32_444
  let v481 : BitVec 32 := Scalar.addi c0_i32_445 v480
  v481.toNat
def k0_dev21 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_469 : BitVec 32 := 1#32
  let v507 : BitVec 32 := Scalar.muli v7 c1_i32_469
  let v508 : BitVec 32 := Scalar.addi c0_i32_470 v507
  v508.toNat
def k0_dev22 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_494 : BitVec 32 := 1#32
  let v534 : BitVec 32 := Scalar.muli v7 c1_i32_494
  let v535 : BitVec 32 := Scalar.addi c0_i32_495 v534
  v535.toNat
def k0_dev23 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_519 : BitVec 32 := 1#32
  let v561 : BitVec 32 := Scalar.muli v7 c1_i32_519
  let v562 : BitVec 32 := Scalar.addi c0_i32_520 v561
  v562.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_544 : BitVec 32 := 1#32
  let v588 : BitVec 32 := Scalar.muli v7 c1_i32_544
  let v589 : BitVec 32 := Scalar.addi c0_i32_545 v588
  v589.toNat
def k0_dev25 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_569 : BitVec 32 := 1#32
  let v615 : BitVec 32 := Scalar.muli v7 c1_i32_569
  let v616 : BitVec 32 := Scalar.addi c0_i32_570 v615
  v616.toNat
def k0_dev26 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_594 : BitVec 32 := 1#32
  let v642 : BitVec 32 := Scalar.muli v7 c1_i32_594
  let v643 : BitVec 32 := Scalar.addi c0_i32_595 v642
  v643.toNat
def k0_dev27 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_619 : BitVec 32 := 1#32
  let v669 : BitVec 32 := Scalar.muli v7 c1_i32_619
  let v670 : BitVec 32 := Scalar.addi c0_i32_620 v669
  v670.toNat
def k0_dev28 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_644 : BitVec 32 := 1#32
  let v696 : BitVec 32 := Scalar.muli v7 c1_i32_644
  let v697 : BitVec 32 := Scalar.addi c0_i32_645 v696
  v697.toNat
def k0_dev29 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_669 : BitVec 32 := 1#32
  let v723 : BitVec 32 := Scalar.muli v7 c1_i32_669
  let v724 : BitVec 32 := Scalar.addi c0_i32_670 v723
  v724.toNat
def k0_dev30 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_694 : BitVec 32 := 1#32
  let v750 : BitVec 32 := Scalar.muli v7 c1_i32_694
  let v751 : BitVec 32 := Scalar.addi c0_i32_695 v750
  v751.toNat
def k0_dev31 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_719 : BitVec 32 := 1#32
  let v777 : BitVec 32 := Scalar.muli v7 c1_i32_719
  let v778 : BitVec 32 := Scalar.addi c0_i32_720 v777
  v778.toNat
def k0_dev32 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_744 : BitVec 32 := 1#32
  let v804 : BitVec 32 := Scalar.muli v7 c1_i32_744
  let v805 : BitVec 32 := Scalar.addi c0_i32_745 v804
  v805.toNat
def k0_dev33 (d0 : Dev nD) : Nat :=
  let c0_i32_770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_769 : BitVec 32 := 1#32
  let v831 : BitVec 32 := Scalar.muli v7 c1_i32_769
  let v832 : BitVec 32 := Scalar.addi c0_i32_770 v831
  v832.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k1_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_10 : BitVec 32 := 32#32
  let v13 : BitVec 32 := Scalar.addi v2 c32_i32_10
  let c1_i32_11 : BitVec 32 := 1#32
  let v14 : BitVec 32 := Scalar.subi v13 c1_i32_11
  let c32_i32_12 : BitVec 32 := 32#32
  let v15 : BitVec 32 := Scalar.remsi v14 c32_i32_12
  let c0_i32_16 : BitVec 32 := 0#32
  let c0_i32_17 : BitVec 32 := 0#32
  ![v15.toNat, 0, 0]
def k1_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_27 : BitVec 32 := 1#32
  let v24 : BitVec 32 := Scalar.muli v7 c1_i32_27
  let v25 : BitVec 32 := Scalar.addi c0_i32_28 v24
  v25.toNat
def k1_off2 (d0 : Dev nD) (c0_i32_53 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_52 : BitVec 32 := 2#32
  let v48 : BitVec 32 := Scalar.subi v2 c2_i32_52
  let v49 : BitVec 32 := Scalar.subi v48 c0_i32_53
  let c64_i32 : BitVec 32 := 64#32
  let v50 : BitVec 32 := Scalar.addi v49 c64_i32
  let c32_i32_54 : BitVec 32 := 32#32
  let v51 : BitVec 32 := Scalar.remsi v50 c32_i32_54
  let c0_i32_55 : BitVec 32 := 0#32
  let c0_i32_56 : BitVec 32 := 0#32
  ![v51.toNat, 0, 0]
def k1_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_66 : BitVec 32 := 1#32
  let v63 : BitVec 32 := Scalar.muli v5 c1_i32_66
  let v64 : BitVec 32 := Scalar.addi c0_i32_67 v63
  v64.toNat
def k1_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_72 : BitVec 32 := 1#32
  let v65 : BitVec 32 := Scalar.muli v7 c1_i32_72
  let v66 : BitVec 32 := Scalar.addi c0_i32_73 v65
  v66.toNat
def k1_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_114 : BitVec 32 := 1#32
  let v104 : BitVec 32 := Scalar.muli v5 c1_i32_114
  let v105 : BitVec 32 := Scalar.addi c0_i32_115 v104
  v105.toNat
def k1_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_122 : BitVec 32 := 1#32
  let v106 : BitVec 32 := Scalar.muli v7 c1_i32_122
  let v107 : BitVec 32 := Scalar.addi c0_i32_123 v106
  v107.toNat
def k1_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_164 : BitVec 32 := 1#32
  let v145 : BitVec 32 := Scalar.muli v5 c1_i32_164
  let v146 : BitVec 32 := Scalar.addi c0_i32_165 v145
  v146.toNat
def k1_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_171 : BitVec 32 := 1#32
  let v147 : BitVec 32 := Scalar.muli v7 c1_i32_171
  let v148 : BitVec 32 := Scalar.addi c0_i32_172 v147
  v148.toNat
def k1_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_213 : BitVec 32 := 1#32
  let v186 : BitVec 32 := Scalar.muli v5 c1_i32_213
  let v187 : BitVec 32 := Scalar.addi c0_i32_214 v186
  v187.toNat
def k1_dev11 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_220 : BitVec 32 := 1#32
  let v188 : BitVec 32 := Scalar.muli v7 c1_i32_220
  let v189 : BitVec 32 := Scalar.addi c0_i32_221 v188
  v189.toNat
def k1_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_262 : BitVec 32 := 1#32
  let v227 : BitVec 32 := Scalar.muli v5 c1_i32_262
  let v228 : BitVec 32 := Scalar.addi c0_i32_263 v227
  v228.toNat
def k1_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_269 : BitVec 32 := 1#32
  let v229 : BitVec 32 := Scalar.muli v7 c1_i32_269
  let v230 : BitVec 32 := Scalar.addi c0_i32_270 v229
  v230.toNat
def k1_dev14 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_311 : BitVec 32 := 1#32
  let v268 : BitVec 32 := Scalar.muli v5 c1_i32_311
  let v269 : BitVec 32 := Scalar.addi c0_i32_312 v268
  v269.toNat
def k1_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_318 : BitVec 32 := 1#32
  let v270 : BitVec 32 := Scalar.muli v7 c1_i32_318
  let v271 : BitVec 32 := Scalar.addi c0_i32_319 v270
  v271.toNat
def k1_dev16 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_360 : BitVec 32 := 1#32
  let v309 : BitVec 32 := Scalar.muli v5 c1_i32_360
  let v310 : BitVec 32 := Scalar.addi c0_i32_361 v309
  v310.toNat
def k1_dev17 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_367 : BitVec 32 := 1#32
  let v311 : BitVec 32 := Scalar.muli v7 c1_i32_367
  let v312 : BitVec 32 := Scalar.addi c0_i32_368 v311
  v312.toNat
def k1_dev18 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_409 : BitVec 32 := 1#32
  let v350 : BitVec 32 := Scalar.muli v5 c1_i32_409
  let v351 : BitVec 32 := Scalar.addi c0_i32_410 v350
  v351.toNat
def k1_dev19 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_416 : BitVec 32 := 1#32
  let v352 : BitVec 32 := Scalar.muli v7 c1_i32_416
  let v353 : BitVec 32 := Scalar.addi c0_i32_417 v352
  v353.toNat
def k1_dev20 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_458 : BitVec 32 := 1#32
  let v391 : BitVec 32 := Scalar.muli v5 c1_i32_458
  let v392 : BitVec 32 := Scalar.addi c0_i32_459 v391
  v392.toNat
def k1_dev21 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_465 : BitVec 32 := 1#32
  let v393 : BitVec 32 := Scalar.muli v7 c1_i32_465
  let v394 : BitVec 32 := Scalar.addi c0_i32_466 v393
  v394.toNat
def k1_dev22 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_507 : BitVec 32 := 1#32
  let v432 : BitVec 32 := Scalar.muli v5 c1_i32_507
  let v433 : BitVec 32 := Scalar.addi c0_i32_508 v432
  v433.toNat
def k1_dev23 (d0 : Dev nD) : Nat :=
  let c0_i32_515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_514 : BitVec 32 := 1#32
  let v434 : BitVec 32 := Scalar.muli v7 c1_i32_514
  let v435 : BitVec 32 := Scalar.addi c0_i32_515 v434
  v435.toNat
def k1_dev24 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_556 : BitVec 32 := 1#32
  let v473 : BitVec 32 := Scalar.muli v5 c1_i32_556
  let v474 : BitVec 32 := Scalar.addi c0_i32_557 v473
  v474.toNat
def k1_dev25 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_563 : BitVec 32 := 1#32
  let v475 : BitVec 32 := Scalar.muli v7 c1_i32_563
  let v476 : BitVec 32 := Scalar.addi c0_i32_564 v475
  v476.toNat
def k1_dev26 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_605 : BitVec 32 := 1#32
  let v514 : BitVec 32 := Scalar.muli v5 c1_i32_605
  let v515 : BitVec 32 := Scalar.addi c0_i32_606 v514
  v515.toNat
def k1_dev27 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_612 : BitVec 32 := 1#32
  let v516 : BitVec 32 := Scalar.muli v7 c1_i32_612
  let v517 : BitVec 32 := Scalar.addi c0_i32_613 v516
  v517.toNat
def k1_dev28 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_654 : BitVec 32 := 1#32
  let v555 : BitVec 32 := Scalar.muli v5 c1_i32_654
  let v556 : BitVec 32 := Scalar.addi c0_i32_655 v555
  v556.toNat
def k1_dev29 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_661 : BitVec 32 := 1#32
  let v557 : BitVec 32 := Scalar.muli v7 c1_i32_661
  let v558 : BitVec 32 := Scalar.addi c0_i32_662 v557
  v558.toNat
def k1_dev30 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_703 : BitVec 32 := 1#32
  let v596 : BitVec 32 := Scalar.muli v5 c1_i32_703
  let v597 : BitVec 32 := Scalar.addi c0_i32_704 v596
  v597.toNat
def k1_dev31 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_710 : BitVec 32 := 1#32
  let v598 : BitVec 32 := Scalar.muli v7 c1_i32_710
  let v599 : BitVec 32 := Scalar.addi c0_i32_711 v598
  v599.toNat
def k1_dev32 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_752 : BitVec 32 := 1#32
  let v637 : BitVec 32 := Scalar.muli v5 c1_i32_752
  let v638 : BitVec 32 := Scalar.addi c0_i32_753 v637
  v638.toNat
def k1_dev33 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_759 : BitVec 32 := 1#32
  let v639 : BitVec 32 := Scalar.muli v7 c1_i32_759
  let v640 : BitVec 32 := Scalar.addi c0_i32_760 v639
  v640.toNat
def k1_dev34 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_801 : BitVec 32 := 1#32
  let v678 : BitVec 32 := Scalar.muli v5 c1_i32_801
  let v679 : BitVec 32 := Scalar.addi c0_i32_802 v678
  v679.toNat
def k1_dev35 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_808 : BitVec 32 := 1#32
  let v680 : BitVec 32 := Scalar.muli v7 c1_i32_808
  let v681 : BitVec 32 := Scalar.addi c0_i32_809 v680
  v681.toNat
def k1_dev36 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_850 : BitVec 32 := 1#32
  let v719 : BitVec 32 := Scalar.muli v5 c1_i32_850
  let v720 : BitVec 32 := Scalar.addi c0_i32_851 v719
  v720.toNat
def k1_dev37 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_857 : BitVec 32 := 1#32
  let v721 : BitVec 32 := Scalar.muli v7 c1_i32_857
  let v722 : BitVec 32 := Scalar.addi c0_i32_858 v721
  v722.toNat
def k1_dev38 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_899 : BitVec 32 := 1#32
  let v760 : BitVec 32 := Scalar.muli v5 c1_i32_899
  let v761 : BitVec 32 := Scalar.addi c0_i32_900 v760
  v761.toNat
def k1_dev39 (d0 : Dev nD) : Nat :=
  let c0_i32_907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_906 : BitVec 32 := 1#32
  let v762 : BitVec 32 := Scalar.muli v7 c1_i32_906
  let v763 : BitVec 32 := Scalar.addi c0_i32_907 v762
  v763.toNat
def k1_dev40 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_948 : BitVec 32 := 1#32
  let v801 : BitVec 32 := Scalar.muli v5 c1_i32_948
  let v802 : BitVec 32 := Scalar.addi c0_i32_949 v801
  v802.toNat
def k1_dev41 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_955 : BitVec 32 := 1#32
  let v803 : BitVec 32 := Scalar.muli v7 c1_i32_955
  let v804 : BitVec 32 := Scalar.addi c0_i32_956 v803
  v804.toNat
def k1_dev42 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_997 : BitVec 32 := 1#32
  let v842 : BitVec 32 := Scalar.muli v5 c1_i32_997
  let v843 : BitVec 32 := Scalar.addi c0_i32_998 v842
  v843.toNat
def k1_dev43 (d0 : Dev nD) : Nat :=
  let c0_i32_1005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1004 : BitVec 32 := 1#32
  let v844 : BitVec 32 := Scalar.muli v7 c1_i32_1004
  let v845 : BitVec 32 := Scalar.addi c0_i32_1005 v844
  v845.toNat
def k1_dev44 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1046 : BitVec 32 := 1#32
  let v883 : BitVec 32 := Scalar.muli v5 c1_i32_1046
  let v884 : BitVec 32 := Scalar.addi c0_i32_1047 v883
  v884.toNat
def k1_dev45 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1053 : BitVec 32 := 1#32
  let v885 : BitVec 32 := Scalar.muli v7 c1_i32_1053
  let v886 : BitVec 32 := Scalar.addi c0_i32_1054 v885
  v886.toNat
def k1_dev46 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1095 : BitVec 32 := 1#32
  let v924 : BitVec 32 := Scalar.muli v5 c1_i32_1095
  let v925 : BitVec 32 := Scalar.addi c0_i32_1096 v924
  v925.toNat
def k1_dev47 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1102 : BitVec 32 := 1#32
  let v926 : BitVec 32 := Scalar.muli v7 c1_i32_1102
  let v927 : BitVec 32 := Scalar.addi c0_i32_1103 v926
  v927.toNat
def k1_dev48 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1144 : BitVec 32 := 1#32
  let v965 : BitVec 32 := Scalar.muli v5 c1_i32_1144
  let v966 : BitVec 32 := Scalar.addi c0_i32_1145 v965
  v966.toNat
def k1_dev49 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1151 : BitVec 32 := 1#32
  let v967 : BitVec 32 := Scalar.muli v7 c1_i32_1151
  let v968 : BitVec 32 := Scalar.addi c0_i32_1152 v967
  v968.toNat
def k1_dev50 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1193 : BitVec 32 := 1#32
  let v1006 : BitVec 32 := Scalar.muli v5 c1_i32_1193
  let v1007 : BitVec 32 := Scalar.addi c0_i32_1194 v1006
  v1007.toNat
def k1_dev51 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1200 : BitVec 32 := 1#32
  let v1008 : BitVec 32 := Scalar.muli v7 c1_i32_1200
  let v1009 : BitVec 32 := Scalar.addi c0_i32_1201 v1008
  v1009.toNat
def k1_dev52 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1242 : BitVec 32 := 1#32
  let v1047 : BitVec 32 := Scalar.muli v5 c1_i32_1242
  let v1048 : BitVec 32 := Scalar.addi c0_i32_1243 v1047
  v1048.toNat
def k1_dev53 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1249 : BitVec 32 := 1#32
  let v1049 : BitVec 32 := Scalar.muli v7 c1_i32_1249
  let v1050 : BitVec 32 := Scalar.addi c0_i32_1250 v1049
  v1050.toNat
def k1_dev54 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1291 : BitVec 32 := 1#32
  let v1088 : BitVec 32 := Scalar.muli v5 c1_i32_1291
  let v1089 : BitVec 32 := Scalar.addi c0_i32_1292 v1088
  v1089.toNat
def k1_dev55 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1298 : BitVec 32 := 1#32
  let v1090 : BitVec 32 := Scalar.muli v7 c1_i32_1298
  let v1091 : BitVec 32 := Scalar.addi c0_i32_1299 v1090
  v1091.toNat
def k1_dev56 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1340 : BitVec 32 := 1#32
  let v1129 : BitVec 32 := Scalar.muli v5 c1_i32_1340
  let v1130 : BitVec 32 := Scalar.addi c0_i32_1341 v1129
  v1130.toNat
def k1_dev57 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1347 : BitVec 32 := 1#32
  let v1131 : BitVec 32 := Scalar.muli v7 c1_i32_1347
  let v1132 : BitVec 32 := Scalar.addi c0_i32_1348 v1131
  v1132.toNat
def k1_dev58 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1389 : BitVec 32 := 1#32
  let v1170 : BitVec 32 := Scalar.muli v5 c1_i32_1389
  let v1171 : BitVec 32 := Scalar.addi c0_i32_1390 v1170
  v1171.toNat
def k1_dev59 (d0 : Dev nD) : Nat :=
  let c0_i32_1397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1396 : BitVec 32 := 1#32
  let v1172 : BitVec 32 := Scalar.muli v7 c1_i32_1396
  let v1173 : BitVec 32 := Scalar.addi c0_i32_1397 v1172
  v1173.toNat
def k1_dev60 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1438 : BitVec 32 := 1#32
  let v1211 : BitVec 32 := Scalar.muli v5 c1_i32_1438
  let v1212 : BitVec 32 := Scalar.addi c0_i32_1439 v1211
  v1212.toNat
def k1_dev61 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1445 : BitVec 32 := 1#32
  let v1213 : BitVec 32 := Scalar.muli v7 c1_i32_1445
  let v1214 : BitVec 32 := Scalar.addi c0_i32_1446 v1213
  v1214.toNat
def k1_dev62 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1491 : BitVec 32 := 1#32
  let v1252 : BitVec 32 := Scalar.muli v7 c1_i32_1491
  let v1253 : BitVec 32 := Scalar.addi c0_i32_1492 v1252
  v1253.toNat
abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S32x512x1024 : Shape := ⟨3, ![32, 512, 1024]⟩
abbrev S1024x32768 : Shape := ⟨2, ![1024, 32768]⟩
abbrev S32768x1024 : Shape := ⟨2, ![32768, 1024]⟩
abbrev S32x512x32768 : Shape := ⟨3, ![32, 512, 32768]⟩
abbrev S32x512x256x128 : Shape := ⟨4, ![32, 512, 256, 128]⟩
abbrev S32x256x512x512 : Shape := ⟨4, ![32, 256, 512, 512]⟩
abbrev S_ : Shape := ⟨0, ![]⟩
abbrev S32x256x512 : Shape := ⟨3, ![32, 256, 512]⟩
abbrev S32x256x512x1 : Shape := ⟨4, ![32, 256, 512, 1]⟩
abbrev S32x256x128x512 : Shape := ⟨4, ![32, 256, 128, 512]⟩
abbrev S32x512x256x1 : Shape := ⟨4, ![32, 512, 256, 1]⟩

abbrev nBuf : Space → Nat
  | .hbm => 36
  | .vmem => 0
  | .smem => 0
  | _ => 0

abbrev bufTy : (tb : Table) → Fin (tcTables nBuf tb) → BufTy
  | .hbm, ⟨0, _⟩ => ⟨S32x512x1024, .bf16⟩
  | .hbm, ⟨1, _⟩ => ⟨S1024x32768, .bf16⟩
  | .hbm, ⟨2, _⟩ => ⟨S1024x32768, .bf16⟩
  | .hbm, ⟨3, _⟩ => ⟨S1024x32768, .bf16⟩
  | .hbm, ⟨4, _⟩ => ⟨S32768x1024, .bf16⟩
  | .hbm, ⟨5, _⟩ => ⟨S32x512x1024, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S32768x1024, .f32⟩
  | .hbm, ⟨10, _⟩ => ⟨S32x512x32768, .f32⟩
  | .hbm, ⟨11, _⟩ => ⟨S32x512x256x128, .f32⟩
  | .hbm, ⟨12, _⟩ => ⟨S32x512x32768, .f32⟩
  | .hbm, ⟨13, _⟩ => ⟨S32x512x256x128, .f32⟩
  | .hbm, ⟨14, _⟩ => ⟨S32x512x32768, .f32⟩
  | .hbm, ⟨15, _⟩ => ⟨S32x512x256x128, .f32⟩
  | .hbm, ⟨16, _⟩ => ⟨S32x256x512x512, .f32⟩
  | .hbm, ⟨17, _⟩ => ⟨S_, .f32⟩
  | .hbm, ⟨18, _⟩ => ⟨S32x256x512x512, .f32⟩
  | .hbm, ⟨19, _⟩ => ⟨S32x256x512x512, .f32⟩
  | .hbm, ⟨20, _⟩ => ⟨S_, .f32⟩
  | .hbm, ⟨21, _⟩ => ⟨S32x256x512, .f32⟩
  | .hbm, ⟨22, _⟩ => ⟨S32x256x512x1, .f32⟩
  | .hbm, ⟨23, _⟩ => ⟨S32x256x512x512, .f32⟩
  | .hbm, ⟨24, _⟩ => ⟨S32x256x512x512, .f32⟩
  | .hbm, ⟨25, _⟩ => ⟨S32x256x512x512, .f32⟩
  | .hbm, ⟨26, _⟩ => ⟨S_, .f32⟩
  | .hbm, ⟨27, _⟩ => ⟨S32x256x512, .f32⟩
  | .hbm, ⟨28, _⟩ => ⟨S32x256x512x1, .f32⟩
  | .hbm, ⟨29, _⟩ => ⟨S32x256x128x512, .f32⟩
  | .hbm, ⟨30, _⟩ => ⟨S32x512x256x128, .f32⟩
  | .hbm, ⟨31, _⟩ => ⟨S32x512x256x1, .f32⟩
  | .hbm, ⟨32, _⟩ => ⟨S32x512x256x128, .f32⟩
  | .hbm, ⟨33, _⟩ => ⟨S32x512x256x128, .f32⟩
  | .hbm, ⟨34, _⟩ => ⟨S32x512x32768, .f32⟩
  | .hbm, ⟨35, _⟩ => ⟨S32x512x1024, .f32⟩
  | _, _ => ⟨S32x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.AgProg.lean ====
/-
  The all-gather's printed body as a prologue followed by thirty-one instances of ONE hop.
-/
module

public import proofs.«01_k».proof.Proof.Gen.KernelIdeal.Skeleton

@[expose] public section

noncomputable section

namespace Cert.K

open Cert.KernelIdeal Cert.KernelIdeal.Gen
open Idealize.ShloMosaic Idealize.SL.Sem

variable {F : FTy → Type} [FloatOps F]

set_option backward.proofsInPublic true in
theorem inb31 (h : Fin 31) : ∀ a, (![h.val] : Fin 1 → Nat) a + S1.size a ≤ S31.size a := by revert h; decide

/-- Semaphore `h` of an array of thirty-one. -/
abbrev semAt (s : DmaSems sig S31) (h : Fin 31) : DmaSem sig :=
  ((s.slice (Rect.unit (s := S31) ![h.val] S1.size (inb31 h))).squeeze S_ squeezes_S1_S_).sem

/-- The row of the gathered array that hop `h` of device `d0` moves. -/
abbrev agRow (arg1 : Memref sig .tc .vmem S32x512x1024 .bf16) (d0 : Dev nD) (h : Fin 31) : Memref sig .tc .vmem S512x1024 .bf16 :=
  (arg1.slice (Rect.unit (s := S32x512x1024) (k0_off2 d0 (BitVec.ofNat 32 h.val)) S1x512x1024.size (k0_off2_inb d0 h)) (fun _ => rfl)).squeeze S512x1024 squeezes_S1x512x1024_S512x1024

/-- One hop: send the row to the right, wait for the send, wait for the row that comes from the left. -/
def agHop (arg1 : Memref sig .tc .vmem S32x512x1024 .bf16) (harg1 : arg1.IsWhole) (arg2 arg3 : DmaSems sig S31) (d0 : Dev nD) (h : Fin 31)
    (k : Prog (TpuEff nD τ sig (Elt F) Λ₀ .tc) PUnit) : Prog (TpuEff nD τ sig (Elt F) Λ₀ .tc) PUnit :=
  .op (.enqueueDma (agRow arg1 d0 h) (.remote (Dev.tc (⟨k0_dev2 d0, k0_dev2_lt d0⟩ : Dev nD)) (agRow arg1 d0 h) (.dma (semAt arg2 h))) (.dma (semAt arg3 h))
    ((harg1.wordExact_slice rfl _ (k0_off2_wordsbf16 d0 h)).reshape _ _) ((harg1.wordExact_slice rfl _ (k0_off2_wordsbf16 d0 h)).reshape _ _) ⟨⟨rfl, Or.inl rfl⟩, trivial⟩) fun _ =>
  .op (.waitDma2 (semAt arg2 h) (agRow arg1 d0 h) (agRow arg1 d0 h) ((harg1.wordExact_slice rfl _ (k0_off2_wordsbf16 d0 h)).reshape _ _) ((harg1.wordExact_slice rfl _ (k0_off2_wordsbf16 d0 h)).reshape _ _)) fun _ =>
  .op (.waitDma2 (semAt arg3 h) (agRow arg1 d0 h) (agRow arg1 d0 h) ((harg1.wordExact_slice rfl _ (k0_off2_wordsbf16 d0 h)).reshape _ _) ((harg1.wordExact_slice rfl _ (k0_off2_wordsbf16 d0 h)).reshape _ _)) fun _ => k

set_option backward.proofsInPublic true in
/-- The last `n` hops. -/
def agHops (arg1 : Memref sig .tc .vmem S32x512x1024 .bf16) (harg1 : arg1.IsWhole) (arg2 arg3 : DmaSems sig S31) (d0 : Dev nD) :
    (n : ℕ) → n ≤ 31 → Prog (TpuEff nD τ sig (Elt F) Λ₀ .tc) PUnit
  | 0, _ => .ret ⟨⟩
  | n + 1, hn => agHop arg1 harg1 arg2 arg3 d0 ⟨31 - (n + 1), by omega⟩ (agHops arg1 harg1 arg2 arg3 d0 n (by omega))

/-- The prologue, continued by all the hops. -/
def agProg (arg0 : Memref sig .tc .vmem S512x1024 .bf16) (harg0 : arg0.IsWhole) (arg1 : Memref sig .tc .vmem S32x512x1024 .bf16) (harg1 : arg1.IsWhole) (arg2 arg3 : DmaSems sig S31) :
    Prog (TpuEff nD τ sig (Elt F) Λ₀ .tc) PUnit := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32
  let v13 : Vec F S512x1024 .bf16 ← Prog.lift (.load arg0 (Rect.unit (s := S512x1024) ![0, 0] S512x1024.size inb_S512x1024_S512x1024_0_0).toLoadRect (View.loadsAt_vmem h_S512x1024))
  let v17 : Vec F S1x512x1024 .bf16 ← Prog.lift (.load arg1 (Rect.unit (s := S32x512x1024) (k0_off1 d0) S1x512x1024.size (k0_off1_inb d0)).toLoadRect (View.loadsAt_vmem h_S1x512x1024))
  Prog.lift (.store arg1 (Rect.unit (s := S32x512x1024) (k0_off1 d0) S1x512x1024.size (k0_off1_inb d0)) (k0_pay1 v13) Finset.univ (View.stores_vmem h_S1x512x1024 (harg1.storeExact_slice rfl _ (k0_off1_packedbf16 d0)) (fun _ => rfl)) (.inl rfl))
  agHops arg1 harg1 arg2 arg3 d0 31 le_rfl

set_option maxRecDepth 65536 in
/-- The printed body is that program. -/
theorem cc0_body_eq : cc0_body (F := F) = agProg (F := F) := rfl

end Cert.K
-- ==== Proof.RsProg.lean ====
/-
  The reduce-scatter's printed body as a prologue followed by thirty-one instances of ONE hop.
-/
module

public import proofs.«01_k».proof.Proof.AgProg

@[expose] public section

noncomputable section

namespace Cert.K

open Cert.KernelIdeal Cert.KernelIdeal.Gen
open Idealize.ShloMosaic Idealize.SL.Sem

variable {F : FTy → Type} [FloatOps F]

set_option backward.proofsInPublic true in
theorem inb2 (b : Fin 2) : ∀ a, (![b.val, 0, 0] : Fin 3 → Nat) a + S1x512x1024.size a ≤ S2x512x1024.size a := by revert b; decide

/-- The parity of a hop: the slot it uses. -/
abbrev par (h : ℕ) : Fin 2 := ⟨h % 2, Nat.mod_lt _ (by decide)⟩

/-- One slot of a two-slot buffer, as a rectangle and as a memref. -/
abbrev slotR (b : Fin 2) : Rect S2x512x1024 := Rect.unit (s := S2x512x1024) ![b.val, 0, 0] S1x512x1024.size (inb2 b)
abbrev slotM (a : Memref sig .tc .vmem S2x512x1024 .f32) (b : Fin 2) : Memref sig .tc .vmem S512x1024 .f32 :=
  (a.slice (slotR b) (fun _ => rfl)).squeeze S512x1024 squeezes_S1x512x1024_S512x1024

/-- The block of the partial sums that hop `h` adds, and the one that goes out first. -/
abbrev pRow (arg0 : Memref sig .tc .hbm S32x512x1024 .f32) (d0 : Dev nD) (h : Fin 31) : Memref sig .tc .hbm S512x1024 .f32 :=
  (arg0.slice (Rect.unit (s := S32x512x1024) (k1_off2 d0 (BitVec.ofNat 32 h.val)) S1x512x1024.size (k1_off2_inb d0 h)) (fun _ => rfl)).squeeze S512x1024 squeezes_S1x512x1024_S512x1024
abbrev pRow0 (arg0 : Memref sig .tc .hbm S32x512x1024 .f32) (d0 : Dev nD) : Memref sig .tc .hbm S512x1024 .f32 :=
  (arg0.slice (Rect.unit (s := S32x512x1024) (k1_off1 d0) S1x512x1024.size (k1_off1_inb d0)) (fun _ => rfl)).squeeze S512x1024 squeezes_S1x512x1024_S512x1024

abbrev fullR : Rect S512x1024 := Rect.unit (s := S512x1024) ![0, 0] S512x1024.size inb_S512x1024_S512x1024_0_0

/-- From the send on: the exchange, the fetch of the block to add, the two loads, continued on what they read. -/
def rsCore (arg0 : Memref sig .tc .hbm S32x512x1024 .f32) (arg3 arg4 : Memref sig .tc .vmem S2x512x1024 .f32)
    (arg5 : Memref sig .tc .vmem S512x1024 .f32) (harg5 : arg5.IsWhole) (arg6 arg7 : DmaSems sig S31) (arg8 : DmaSems sig S_) (d0 : Dev nD) (h : Fin 31)
    (k : Vec F S1x512x1024 .f32 → Vec F S512x1024 .f32 → Prog (TpuEff nD τ sig (Elt F) Λ₀ .tc) PUnit) : Prog (TpuEff nD τ sig (Elt F) Λ₀ .tc) PUnit :=
  .op (.enqueueDma (slotM arg3 (par h.val)) (.remote (Dev.tc (⟨k1_dev2 d0, k1_dev2_lt d0⟩ : Dev nD)) (slotM arg4 (par h.val)) (.dma (semAt arg6 h))) (.dma (semAt arg7 h))
    ((View.wordExact_bits rfl).reshape _ _) ((View.wordExact_bits rfl).reshape _ _) ⟨⟨rfl, Or.inl rfl⟩, trivial⟩) fun _ =>
  .op (.waitDma2 (semAt arg6 h) (slotM arg4 (par h.val)) (slotM arg3 (par h.val)) ((View.wordExact_bits rfl).reshape _ _) ((View.wordExact_bits rfl).reshape _ _)) fun _ =>
  .op (.waitDma2 (semAt arg7 h) (slotM arg3 (par h.val)) (slotM arg4 (par h.val)) ((View.wordExact_bits rfl).reshape _ _) ((View.wordExact_bits rfl).reshape _ _)) fun _ =>
  .op (.enqueueDma (pRow arg0 d0 h) (.here arg5) (.dma arg8.sem) ((View.wordExact_bits rfl).reshape _ _) harg5.wordExact ⟨Or.inl rfl, trivial⟩) fun _ =>
  .op (.waitDma2 arg8.sem (pRow arg0 d0 h) arg5 ((View.wordExact_bits rfl).reshape _ _) harg5.wordExact) fun _ =>
  .op (.load arg4 (slotR (par h.val)).toLoadRect (View.loadsAt_vmem h_S1x512x1024)) fun v =>
  .op (.load arg5 fullR.toLoadRect (View.loadsAt_vmem h_S512x1024)) fun w => k v w

/-- The send slot for the next hop is filled with the sum. -/
def rsFill (arg3 : Memref sig .tc .vmem S2x512x1024 .f32) (h : Fin 31) (v : Vec F S1x512x1024 .f32) (w : Vec F S512x1024 .f32)
    (k : Prog (TpuEff nD τ sig (Elt F) Λ₀ .tc) PUnit) : Prog (TpuEff nD τ sig (Elt F) Λ₀ .tc) PUnit :=
  .op (.load arg3 (slotR (par (h.val + 1))).toLoadRect (View.loadsAt_vmem h_S1x512x1024)) fun _ =>
  .op (.store arg3 (slotR (par (h.val + 1))) (k1_pay2 v w) Finset.univ (View.stores_vmem_bits_univ h_S1x512x1024 rfl) (.inl rfl)) fun _ => k

/-- The last sum goes to the result. -/
def rsLast (arg2 : Memref sig .tc .vmem S512x1024 .f32) (v : Vec F S1x512x1024 .f32) (w : Vec F S512x1024 .f32) :
    Prog (TpuEff nD τ sig (Elt F) Λ₀ .tc) PUnit :=
  .op (.load arg2 fullR.toLoadRect (View.loadsAt_vmem h_S512x1024)) fun _ =>
  .op (.store arg2 fullR (k1_pay1 v w) Finset.univ (View.stores_vmem_bits_univ h_S512x1024 rfl) (.inl rfl)) fun _ => .ret ⟨⟩

/-- One hop before the last: it waits for its credit if it is the third or later, and hands a credit on if it is the twenty-ninth or
    earlier. -/
def rsHop (arg0 : Memref sig .tc .hbm S32x512x1024 .f32) (arg3 arg4 : Memref sig .tc .vmem S2x512x1024 .f32)
    (arg5 : Memref sig .tc .vmem S512x1024 .f32) (harg5 : arg5.IsWhole) (arg6 arg7 : DmaSems sig S31) (arg8 : DmaSems sig S_) (arg9 : Sems sig S_) (d0 : Dev nD) (h : Fin 31)
    (k : Prog (TpuEff nD τ sig (Elt F) Λ₀ .tc) PUnit) : Prog (TpuEff nD τ sig (Elt F) Λ₀ .tc) PUnit :=
  let core := rsCore arg0 arg3 arg4 arg5 harg5 arg6 arg7 arg8 d0 h fun v w => rsFill arg3 h v w
    (if h.val ≤ 28 then semSignalWord (⟨k1_dev1 d0, k1_dev1_lt d0⟩ : Dev nD) arg9.sem 1#32 >>= fun _ => k else k)
  if 2 ≤ h.val then semWaitWord arg9.sem 1#32 >>= fun _ => core else core

set_option backward.proofsInPublic true in
/-- The last `n` hops and the end. -/
def rsHops (arg0 : Memref sig .tc .hbm S32x512x1024 .f32) (arg2 : Memref sig .tc .vmem S512x1024 .f32) (arg3 arg4 : Memref sig .tc .vmem S2x512x1024 .f32)
    (arg5 : Memref sig .tc .vmem S512x1024 .f32) (harg5 : arg5.IsWhole) (arg6 arg7 : DmaSems sig S31) (arg8 : DmaSems sig S_) (arg9 : Sems sig S_) (d0 : Dev nD) :
    (n : ℕ) → n ≤ 30 → Prog (TpuEff nD τ sig (Elt F) Λ₀ .tc) PUnit
  | 0, _ => semWaitWord arg9.sem 1#32 >>= fun _ => rsCore arg0 arg3 arg4 arg5 harg5 arg6 arg7 arg8 d0 ⟨30, by omega⟩ fun v w => rsLast arg2 v w
  | n + 1, hn => rsHop arg0 arg3 arg4 arg5 harg5 arg6 arg7 arg8 arg9 d0 ⟨30 - (n + 1), by omega⟩
      (rsHops arg0 arg2 arg3 arg4 arg5 harg5 arg6 arg7 arg8 arg9 d0 n (by omega))

/-- The prologue, continued by all the hops. -/
def rsProg (arg0 : Memref sig .tc .hbm S32x512x1024 .f32) (arg2 : Memref sig .tc .vmem S512x1024 .f32) (arg3 arg4 : Memref sig .tc .vmem S2x512x1024 .f32)
    (arg5 : Memref sig .tc .vmem S512x1024 .f32) (harg5 : arg5.IsWhole) (arg6 arg7 : DmaSems sig S31) (arg8 : DmaSems sig S_) (arg9 : Sems sig S_) :
    Prog (TpuEff nD τ sig (Elt F) Λ₀ .tc) PUnit := do
  let d0 : Dev nD ← Prog.lift .deviceId
  semSignalWord (⟨k1_dev1 d0, k1_dev1_lt d0⟩ : Dev nD) (SemArray.scalar (sig.barrier 1 rfl) : Sems sig S_).sem 1#32
  semSignalWord (⟨k1_dev2 d0, k1_dev2_lt d0⟩ : Dev nD) (SemArray.scalar (sig.barrier 1 rfl) : Sems sig S_).sem 1#32
  semWaitWord (SemArray.scalar (sig.barrier 1 rfl) : Sems sig S_).sem 2#32
  Prog.lift (.enqueueDma (pRow0 arg0 d0) (.here (slotM arg3 0)) (.dma arg8.sem) ((View.wordExact_bits rfl).reshape _ _) ((View.wordExact_bits rfl).reshape _ _) ⟨Or.inl rfl, trivial⟩)
  Prog.lift (.waitDma2 arg8.sem (pRow0 arg0 d0) (slotM arg3 0) ((View.wordExact_bits rfl).reshape _ _) ((View.wordExact_bits rfl).reshape _ _))
  rsHops arg0 arg2 arg3 arg4 arg5 harg5 arg6 arg7 arg8 arg9 d0 30 le_rfl

set_option maxRecDepth 65536 in
/-- The printed body is that program. -/
theorem cc1_body_eq (arg0 : Memref sig .tc .hbm S32x512x1024 .f32) (harg0 : arg0.IsWhole) (arg1 : Memref sig .tc .hbm S32x512x1024 .bf16) (harg1 : arg1.IsWhole)
    (arg2 : Memref sig .tc .vmem S512x1024 .f32) (harg2 : arg2.IsWhole) (arg3 : Memref sig .tc .vmem S2x512x1024 .f32) (harg3 : arg3.IsWhole)
    (arg4 : Memref sig .tc .vmem S2x512x1024 .f32) (harg4 : arg4.IsWhole) (arg5 : Memref sig .tc .vmem S512x1024 .f32) (harg5 : arg5.IsWhole)
    (arg6 arg7 : DmaSems sig S31) (arg8 : DmaSems sig S_) (arg9 : Sems sig S_) :
    cc1_body (F := F) arg0 harg0 arg1 harg1 arg2 harg2 arg3 harg3 arg4 harg4 arg5 harg5 arg6 arg7 arg8 arg9 =
      rsProg (F := F) arg0 arg2 arg3 arg4 arg5 harg5 arg6 arg7 arg8 arg9 := rfl

end Cert.K
-- ==== Proof.Common.lean ====
/-
  Shared vocabulary of the two rings: neighbours, semaphores, rows and slots, the contents every buffer is to hold, the schedule of both protocols
  over one set of cells, the levels, and what each device owes.
-/
module

public import proofs.«01_k».proof.Proof.RsProg
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.ValueLayout
public import Idealize.ShloMosaic.Lib.Rounds
public import Idealize.ShloMosaic.Lib.Release
public import Idealize.ShloMosaic.Lib.Ring
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

/-! ## The ring -/

set_option backward.proofsInPublic true in
/-- The right neighbour. -/
def nxt (c : Dev nD) : Dev nD := ⟨(c.val + 1) % 32, Nat.mod_lt _ (by decide)⟩
set_option backward.proofsInPublic true in
/-- The left neighbour. -/
def prv (c : Dev nD) : Dev nD := ⟨(c.val + 31) % 32, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

theorem k0_dev1_prv (c : Dev nD) : (⟨k0_dev1 c, k0_dev1_lt c⟩ : Dev nD) = prv c := Fin.ext (k0_dev1_eq c)
theorem k0_dev2_nxt (c : Dev nD) : (⟨k0_dev2 c, k0_dev2_lt c⟩ : Dev nD) = nxt c := Fin.ext (k0_dev2_eq c)
theorem k1_dev1_prv (c : Dev nD) : (⟨k1_dev1 c, k1_dev1_lt c⟩ : Dev nD) = prv c := Fin.ext (k1_dev1_eq c)
theorem k1_dev2_nxt (c : Dev nD) : (⟨k1_dev2 c, k1_dev2_lt c⟩ : Dev nD) = nxt c := Fin.ext (k1_dev2_eq c)

set_option backward.proofsInPublic true in
/-- The device `k` places to the left. -/
def rowIx (c : Dev nD) (k : ℕ) : Fin 32 := ⟨(c.val + 64 - k) % 32, Nat.mod_lt _ (by decide)⟩

theorem rowIx_zero (c : Dev nD) : (rowIx c 0).val = c.val := by
  have : c.val < 32 := c.isLt; show (c.val + 64 - 0) % 32 = c.val; omega
theorem rowIx_nxt (c : Dev nD) (k : ℕ) (hk : k ≤ 63) : rowIx (nxt c) (k + 1) = rowIx c k := by
  have : c.val < 32 := c.isLt; apply Fin.ext; show ((c.val + 1) % 32 + 64 - (k + 1)) % 32 = (c.val + 64 - k) % 32; omega
theorem rowIx_prv (c : Dev nD) (k : ℕ) (hk : k ≤ 63) : rowIx (prv c) k = rowIx c (k + 1) := by
  have : c.val < 32 := c.isLt; apply Fin.ext; show ((c.val + 31) % 32 + 64 - k) % 32 = (c.val + 64 - (k + 1)) % 32; omega
theorem rowIx_last (c : Dev nD) : (rowIx c 31).val = (nxt c).val := by
  have : c.val < 32 := c.isLt; show (c.val + 64 - 31) % 32 = (c.val + 1) % 32; omega

/-! ## Rows and slots -/

set_option backward.proofsInPublic true in
theorem inb32 (r : Fin 32) : ∀ a, (![r.val, 0, 0] : Fin 3 → Nat) a + S1x512x1024.size a ≤ S32x512x1024.size a := by revert r; decide

/-- Row `r`, as a rectangle and as a memref. -/
abbrev rowR (r : Fin 32) : Rect S32x512x1024 := Rect.unit (s := S32x512x1024) ![r.val, 0, 0] S1x512x1024.size (inb32 r)
abbrev rowM {sp : Space} {e : EltTy} (M : Memref sig .tc sp S32x512x1024 e) (r : Fin 32) : Memref sig .tc sp S512x1024 e :=
  (M.slice (rowR r) (fun _ => rfl)).squeeze S512x1024 squeezes_S1x512x1024_S512x1024

theorem unit_row {sp : Space} {e : EltTy} (M : Memref sig .tc sp S32x512x1024 e) {off : Fin 3 → Nat} (r : Fin 32) (h : off = ![r.val, 0, 0])
    (inb : ∀ a, off a + S1x512x1024.size a ≤ S32x512x1024.size a) :
    (M.slice (Rect.unit (s := S32x512x1024) off S1x512x1024.size inb) (fun _ => rfl)).squeeze S512x1024 squeezes_S1x512x1024_S512x1024 = rowM M r := by
  subst h; rfl

theorem agRow_eq (M : Memref sig .tc .vmem S32x512x1024 .bf16) (c : Dev nD) (h : Fin 31) : agRow M c h = rowM M (rowIx c h.val) :=
  unit_row M _ (k0_off2_eq c h) _
theorem pRow0_eq (M : Memref sig .tc .hbm S32x512x1024 .f32) (c : Dev nD) : pRow0 M c = rowM M (rowIx c 1) :=
  unit_row M _ ((k1_off1_eq c).trans (by show _ = ![(c.val + 64 - 1) % 32, 0, 0]; have : c.val < 32 := c.isLt; rw [show (c.val + 31) % 32 = (c.val + 64 - 1) % 32 by omega])) _
theorem pRow_eq (M : Memref sig .tc .hbm S32x512x1024 .f32) (c : Dev nD) (h : Fin 31) : pRow M c h = rowM M (rowIx c (h.val + 2)) :=
  unit_row M _ ((k1_off2_eq c h).trans (by show _ = ![(c.val + 64 - (h.val + 2)) % 32, 0, 0]; rw [show c.val + 62 - h.val = c.val + 64 - (h.val + 2) by omega])) _

/-- Slot `b` or row `r` of a three-dimensional buffer, as a set of indices. -/
def lead {n : ℕ} (r : ℕ) : Finset (⟨3, ![n, 512, 1024]⟩ : Shape).Idx := Finset.univ.filter fun i => (i 0).val = r

theorem mem_lead {n : ℕ} (r : ℕ) (i : (⟨3, ![n, 512, 1024]⟩ : Shape).Idx) : i ∈ (lead r : Finset (⟨3, ![n, 512, 1024]⟩ : Shape).Idx) ↔ (i 0).val = r := by
  simp [lead]

theorem row_rect_set (r : Fin 32) : (rowR r).set = lead r.val := by
  ext i
  rw [mem_lead, Rect.mem_set_unit]
  constructor
  · intro h
    have h0 := h 0
    have h1 : (i 0).val < r.val + 1 := h0.2
    have h2 : r.val ≤ (i 0).val := h0.1
    omega
  · intro h a
    have hi := (i a).isLt
    fin_cases a
    · show r.val ≤ (i 0).val ∧ (i 0).val < r.val + 1; omega
    · exact ⟨Nat.zero_le _, by show (i 1).val < 0 + 512; have : (i 1).val < 512 := (i 1).isLt; omega⟩
    · exact ⟨Nat.zero_le _, by show (i 2).val < 0 + 1024; have : (i 2).val < 1024 := (i 2).isLt; omega⟩

theorem slot_rect_set (b : Fin 2) : (slotR b).set = lead b.val := by
  ext i
  rw [mem_lead, Rect.mem_set_unit]
  constructor
  · intro h
    have h0 := h 0
    have h1 : (i 0).val < b.val + 1 := h0.2
    have h2 : b.val ≤ (i 0).val := h0.1
    omega
  · intro h a
    fin_cases a
    · show b.val ≤ (i 0).val ∧ (i 0).val < b.val + 1; omega
    · exact ⟨Nat.zero_le _, by show (i 1).val < 0 + 512; have : (i 1).val < 512 := (i 1).isLt; omega⟩
    · exact ⟨Nat.zero_le _, by show (i 2).val < 0 + 1024; have : (i 2).val < 1024 := (i 2).isLt; omega⟩

/-! ## The buffers -/

abbrev xM : Memref sig .tc .vmem S512x1024 .bf16 := Memref.whole cc0_stg0_0
abbrev oM : Memref sig .tc .vmem S32x512x1024 .bf16 := Memref.whole cc0_stg1_0
abbrev pM : Memref sig .tc .hbm S32x512x1024 .f32 := Memref.whole main_v30
abbrev rM : Memref sig .tc .vmem S512x1024 .f32 := Memref.whole cc1_stg0_0
abbrev sM : Memref sig .tc .vmem S2x512x1024 .f32 := Memref.whole cc1_scratch0
abbrev vM : Memref sig .tc .vmem S2x512x1024 .f32 := Memref.whole cc1_scratch1
abbrev bM : Memref sig .tc .vmem S512x1024 .f32 := Memref.whole cc1_scratch2

theorem oRow_set (r : Fin 32) : (rowM oM r).view.set = lead r.val :=
  (View.set_reshape _ _).trans ((View.set_slice_whole _ _).trans (row_rect_set r))
theorem oAcc_set (r : Fin 32) : (oM.access (rowR r)).set = lead r.val := (View.set_slice_whole _ _).trans (row_rect_set r)
theorem pRow_set (r : Fin 32) : (rowM pM r).view.set = lead r.val :=
  (View.set_reshape _ _).trans ((View.set_slice_whole _ _).trans (row_rect_set r))
theorem sSlot_set (b : Fin 2) : (slotM sM b).view.set = lead b.val :=
  (View.set_reshape _ _).trans ((View.set_slice_whole _ _).trans (slot_rect_set b))
theorem vSlot_set (b : Fin 2) : (slotM vM b).view.set = lead b.val :=
  (View.set_reshape _ _).trans ((View.set_slice_whole _ _).trans (slot_rect_set b))
theorem sAcc_set (b : Fin 2) : (sM.access (slotR b)).set = lead b.val := (View.set_slice_whole _ _).trans (slot_rect_set b)
theorem vAcc_set (b : Fin 2) : (vM.access (slotR b)).set = lead b.val := (View.set_slice_whole _ _).trans (slot_rect_set b)

/-! ## Contents -/

/-- Both slots at `v`. -/
def two (v : Vec F S512x1024 .f32) : Vec F S2x512x1024 .f32 := fun i => v (ix2 (i 1) (i 2))
/-- Every device's block, one after the other. -/
def gath {e : EltTy} (xs : Dev nD → Vec F S512x1024 e) : Vec F S32x512x1024 e := fun i => xs (i 0) (ix2 (i 1) (i 2))
/-- Row `r` of an array of thirty-two. -/
def blk {e : EltTy} (v : Vec F S32x512x1024 e) (r : Fin 32) : Vec F S512x1024 e := fun i => v (ix3 r (i 0) (i 1))

/-- What device `c` sends at hop `h`; at `31`, the result. -/
def acc (P : Dev nD → Vec F S32x512x1024 .f32) : ℕ → Dev nD → Vec F S512x1024 .f32
  | 0, c => blk (P c) (rowIx c 1)
  | h + 1, c => addf (acc P h (prv c)) (blk (P c) (rowIx c (h + 2)))

section Reads
omit [FloatOps F]

theorem blk_gath {e : EltTy} (xs : Dev nD → Vec F S512x1024 e) (r : Dev nD) : blk (gath xs) r = xs r := by
  funext i; show xs r (ix2 (i 0) (i 1)) = xs r i; congr 1; funext a; fin_cases a <;> rfl

theorem ix2_self (x : S512x1024.Idx) : ix2 (x 0) (x 1) = x := by funext a; fin_cases a <;> rfl

theorem reshape_row (h : S512x1024.numel = S1x512x1024.numel) (x : S512x1024.Idx) :
    Shape.reshapeEquiv h x = (ix3 (⟨0, Nat.one_pos⟩ : Fin 1) (x 0) (x 1) : S1x512x1024.Idx) :=
  (congrArg (Shape.reshapeEquiv h) (ix2_self x).symm).trans (reshapeEquiv_ix2_1ab h (x 0) (x 1))

/-- A row's index in the array. -/
theorem row_emb (h : S512x1024.numel = S1x512x1024.numel) (r : Fin 32) (x : S512x1024.Idx) :
    (rowR r).emb (Shape.reshapeEquiv h x) = ix3 r (x 0) (x 1) := by
  refine (congrArg (rowR r).emb (reshape_row h x)).trans ?_
  funext a; apply Fin.ext
  fin_cases a
  · show r.val + 1 * 0 = r.val; omega
  · show 0 + 1 * (x 0).val = (x 0).val; omega
  · show 0 + 1 * (x 1).val = (x 1).val; omega
theorem slot_emb (h : S512x1024.numel = S1x512x1024.numel) (b : Fin 2) (x : S512x1024.Idx) :
    (slotR b).emb (Shape.reshapeEquiv h x) = ix3 b (x 0) (x 1) := by
  refine (congrArg (slotR b).emb (reshape_row h x)).trans ?_
  funext a; apply Fin.ext
  fin_cases a
  · show b.val + 1 * 0 = b.val; omega
  · show 0 + 1 * (x 0).val = (x 0).val; omega
  · show 0 + 1 * (x 1).val = (x 1).val; omega

theorem read_oRow (r : Fin 32) (f : Vec F S32x512x1024 .bf16) : (rowM oM r).view.read (Elt F) f = blk f r := by
  funext x; exact congrArg f (row_emb _ r x)
theorem read_pRow (r : Fin 32) (f : Vec F S32x512x1024 .f32) : (rowM pM r).view.read (Elt F) f = blk f r := by
  funext x; exact congrArg f (row_emb _ r x)
theorem read_sSlot (b : Fin 2) (v : Vec F S512x1024 .f32) : (slotM sM b).view.read (Elt F) (two v) = v := by
  funext x; refine (congrArg (two v) (slot_emb _ b x)).trans ?_; exact congrArg v (ix2_self x)
theorem read_vSlot (b : Fin 2) (v : Vec F S512x1024 .f32) : (slotM vM b).view.read (Elt F) (two v) = v := by
  funext x; refine (congrArg (two v) (slot_emb _ b x)).trans ?_; exact congrArg v (ix2_self x)

/-- A view written with what it reads in `g` is `g` on the view. -/
theorem write_eq {sp : Space} {s : Shape} {e : EltTy} (M : Memref sig .tc sp s e) (f g : M.view.ty.Contents (Elt F)) (w : s.Idx → Elt F e)
    (hw : w = M.view.read (Elt F) g) : ∀ i ∈ M.view.set, M.view.write (Elt F) f w Finset.univ i = g i := by
  intro i hi
  subst hw
  rw [View.write_read_eq_piecewise]
  exact Finset.piecewise_eq_of_mem _ _ _ hi
end Reads

end Cert.K
-- ==== Proof.Sched.lean ====
/-
  The cells of both rings, the schedule they follow, the levels, and what each device owes.
-/
module

public import proofs.«01_k».proof.Proof.Common
public import Idealize.ShloMosaic.Lib.Pipeline.TalkSites

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)
open Idealize.ShloMosaic.TalkSites (Pay tallyL tallyL_pos)

variable {F : FTy → Type} [FloatOps F]

/-! ## The semaphores -/

abbrev sSnd0 (h : Fin 31) : SemLoc sig := .dma (semAt cc0_scratch0 h)
abbrev sRcv0 (h : Fin 31) : SemLoc sig := .dma (semAt cc0_scratch1 h)
abbrev sSnd1 (h : Fin 31) : SemLoc sig := .dma (semAt cc1_scratch3 h)
abbrev sRcv1 (h : Fin 31) : SemLoc sig := .dma (semAt cc1_scratch4 h)
abbrev sLoc : SemLoc sig := .dma cc1_scratch5.sem
abbrev sCr : SemLoc sig := .reg cc1_scratch6.sem
abbrev sBar0 : SemLoc sig := .reg (SemArray.scalar (sig.barrier 0 rfl) : Sems sig S_).sem
abbrev sBar1 : SemLoc sig := .reg (SemArray.scalar (sig.barrier 1 rfl) : Sems sig S_).sem

/-- A device's cell at a semaphore. -/
abbrev C (c : Dev nD) (s : SemLoc sig) : GSem nD τ sig := ((c : Thread nD τ), s)

/-- What a semaphore is for. -/
inductive Kd where
  | bar0 | bar1 | cr | loc
  | snd0 (h : Fin 31) | rcv0 (h : Fin 31) | snd1 (h : Fin 31) | rcv1 (h : Fin 31)
  | other
  deriving DecidableEq

/-- What a DMA semaphore of number `n` is for. -/
def kdDma (n : ℕ) : Kd :=
  if h : 2 ≤ n ∧ n < 33 then .snd0 ⟨n - 2, by omega⟩
  else if h : 33 ≤ n ∧ n < 64 then .rcv0 ⟨n - 33, by omega⟩
  else if h : 65 ≤ n ∧ n < 96 then .snd1 ⟨n - 65, by omega⟩
  else if h : 96 ≤ n ∧ n < 127 then .rcv1 ⟨n - 96, by omega⟩
  else if n = 127 then .loc else .other
/-- What a semaphore is for, from its number. -/
def kd : SemLoc sig → Kd
  | .reg s => if s.val = 0 then .bar0 else if s.val = 1 then .cr else .bar1
  | .dma s => kdDma s.val

theorem semAt_snd0 (h : Fin 31) : (semAt cc0_scratch0 h).val = 2 + h.val := by revert h; decide
theorem semAt_rcv0 (h : Fin 31) : (semAt cc0_scratch1 h).val = 33 + h.val := by revert h; decide
theorem semAt_snd1 (h : Fin 31) : (semAt cc1_scratch3 h).val = 65 + h.val := by revert h; decide
theorem semAt_rcv1 (h : Fin 31) : (semAt cc1_scratch4 h).val = 96 + h.val := by revert h; decide

theorem kd_snd0 (h : Fin 31) : kd (sSnd0 h) = .snd0 h := by revert h; decide
theorem kd_rcv0 (h : Fin 31) : kd (sRcv0 h) = .rcv0 h := by revert h; decide
theorem kd_snd1 (h : Fin 31) : kd (sSnd1 h) = .snd1 h := by revert h; decide
theorem kd_rcv1 (h : Fin 31) : kd (sRcv1 h) = .rcv1 h := by revert h; decide
theorem kd_loc : kd sLoc = .loc := by decide
theorem kd_cr : kd sCr = .cr := by decide
theorem kd_bar0 : kd sBar0 = .bar0 := by decide
theorem kd_bar1 : kd sBar1 = .bar1 := by decide

/-! ## The algebra -/

/-- The pipeline's rounds, the rings' rounds, and the receive slots' turns. -/
abbrev UU : Type := UR sig nD τ × (URounds (GSem nD τ sig) ℕ × USlots (Dev nD × Fin 2))

local notation "𝕄" => MT nD τ sig ℕ (Elt F) ℕ UU ℕ

/-- The pipeline's copy inside the machine's algebra, -/
abbrev EP : Emb (UR sig nD τ) (MT nD τ sig ℕ (Elt F) ℕ UU ℕ) := embL
/-- the rings', -/
def ER : Emb (URounds (GSem nD τ sig) ℕ) (MT nD τ sig ℕ (Elt F) ℕ UU ℕ) :=
  (Emb.inl : Emb _ (URounds (GSem nD τ sig) ℕ × USlots (Dev nD × Fin 2))).trans embR
/-- and the slots'. -/
def ES : Emb (USlots (Dev nD × Fin 2)) (MT nD τ sig ℕ (Elt F) ℕ UU ℕ) :=
  (Emb.inr : Emb _ (URounds (GSem nD τ sig) ℕ × USlots (Dev nD × Fin 2))).trans embR

instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## What the buffers hold -/

/-- Row `r` of device `c`'s gathered array, -/
def oPt (c : Dev nD) (r : Fin 32) (f : Vec F S32x512x1024 .bf16) : sProp 𝕄 :=
  (rowM oM r).view.loc (c : Thread nD τ) ↦[(rowM oM r).view.set]{fullShare} f
/-- row `r` of its partial sums, -/
def pPt (c : Dev nD) (r : Fin 32) (f : Vec F S32x512x1024 .f32) : sProp 𝕄 :=
  (rowM pM r).view.loc (c : Thread nD τ) ↦[(rowM pM r).view.set]{fullShare} f
/-- slot `b` of its send buffer, -/
def sPt (c : Dev nD) (b : Fin 2) (f : Vec F S2x512x1024 .f32) : sProp 𝕄 :=
  (slotM sM b).view.loc (c : Thread nD τ) ↦[(slotM sM b).view.set]{fullShare} f
/-- slot `b` of its receive buffer, -/
def vPt (c : Dev nD) (b : Fin 2) (f : Vec F S2x512x1024 .f32) : sProp 𝕄 :=
  (slotM vM b).view.loc (c : Thread nD τ) ↦[(slotM vM b).view.set]{fullShare} f
/-- and its fetch buffer. -/
def bPt (c : Dev nD) (f : Vec F S512x1024 .f32) : sProp 𝕄 :=
  bM.view.loc (c : Thread nD τ) ↦[bM.view.set]{fullShare} f

/-- A receive slot at anything: what the slot's turns are about. -/
def vSl (k : Dev nD × Fin 2) : sProp 𝕄 := iprop(∃ f, vPt (F := F) k.1 k.2 f)

omit [FloatOps F] in
instance oPt_storable (c : Dev nD) (r : Fin 32) (f : Vec F S32x512x1024 .bf16) : BI.Storable (upEmb : UEmb _ 𝕄) (oPt (F := F) c r f) := by
  unfold oPt; infer_instance
omit [FloatOps F] in
instance pPt_storable (c : Dev nD) (r : Fin 32) (f : Vec F S32x512x1024 .f32) : BI.Storable (upEmb : UEmb _ 𝕄) (pPt (F := F) c r f) := by
  unfold pPt; infer_instance
omit [FloatOps F] in
instance sPt_storable (c : Dev nD) (b : Fin 2) (f : Vec F S2x512x1024 .f32) : BI.Storable (upEmb : UEmb _ 𝕄) (sPt (F := F) c b f) := by
  unfold sPt; infer_instance
omit [FloatOps F] in
instance vPt_storable (c : Dev nD) (b : Fin 2) (f : Vec F S2x512x1024 .f32) : BI.Storable (upEmb : UEmb _ 𝕄) (vPt (F := F) c b f) := by
  unfold vPt; infer_instance
omit [FloatOps F] in
instance bPt_storable (c : Dev nD) (f : Vec F S512x1024 .f32) : BI.Storable (upEmb : UEmb _ 𝕄) (bPt (F := F) c f) := by
  unfold bPt; infer_instance
omit [FloatOps F] in
instance vSl_storable (k : Dev nD × Fin 2) : BI.Storable (upEmb : UEmb _ 𝕄) (vSl (F := F) k) := by
  unfold vSl; infer_instance

/-! ## The schedule -/

/-- What one transfer of either ring credits. -/
@[irreducible] def N0 : ℕ := (rowM oM 0).view.dmaCredit
@[irreducible] def N1 : ℕ := (slotM sM 0).view.dmaCredit
theorem N0_pos : 0 < N0 := by unfold N0; exact View.dmaCredit_pos _ h_S512x1024
theorem N1_pos : 0 < N1 := by unfold N1; exact View.dmaCredit_pos _ h_S512x1024

theorem N1_v (b : Fin 2) : (slotM vM b).view.dmaCredit = N1 := by unfold N1; rfl
theorem N1_s (b : Fin 2) : (slotM sM b).view.dmaCredit = N1 := by unfold N1; rfl
theorem N1_b : bM.view.dmaCredit = N1 := by unfold N1; rfl
theorem N0_o (r : Fin 32) : (rowM oM r).view.dmaCredit = N0 := by unfold N0; rfl

/-- The duties of a semaphore's round: a barrier hears both neighbours, the credit cell hears the right neighbour twenty-nine times, the
    local semaphore serves thirty-two fetches, every other one transfer. -/
def dut : Kd → ℕ → Finset ℕ
  | .bar0, 0 => {0, 1}
  | .bar1, 0 => {0, 1}
  | .cr, 0 => Finset.range 29
  | .loc, r => if r < 32 then {0} else ∅
  | .snd0 _, 0 => {0}
  | .rcv0 _, 0 => {0}
  | .snd1 _, 0 => {0}
  | .rcv1 _, 0 => {0}
  | _, _ => ∅

def amt : Kd → ℕ
  | .snd0 _ => N0
  | .rcv0 _ => N0
  | .snd1 _ => N1
  | .rcv1 _ => N1
  | .loc => N1
  | _ => 1

theorem amt_pos : ∀ k : Kd, 0 < amt k
  | .snd0 _ => N0_pos
  | .rcv0 _ => N0_pos
  | .snd1 _ => N1_pos
  | .rcv1 _ => N1_pos
  | .loc => N1_pos
  | .bar0 => Nat.one_pos
  | .bar1 => Nat.one_pos
  | .cr => Nat.one_pos
  | .other => Nat.one_pos

section Schedule

variable (xs : Dev nD → Vec F S512x1024 .bf16) (P : Dev nD → Vec F S32x512x1024 .f32)

/-- What the right neighbour's arrival at the first barrier hands over: thirty-one of its rows, and that its receive cells are open. -/
def bar0Pay (c : Dev nD) : sProp 𝕄 :=
  iprop((bigSep Finset.univ fun h : Fin 31 => iprop(∃ f, oPt (F := F) (nxt c) (rowIx c h.val) f))
    ∗ bigSep Finset.univ fun h : Fin 31 => reached ER (C (nxt c) (sRcv0 h)) 0)
/-- What its arrival at the second hands over: the first turn of both its receive slots, and that its receive cells are open. -/
def bar1Pay (c : Dev nD) : sProp 𝕄 :=
  iprop((released ES (nxt c, (0 : Fin 2)) 1 ∗ released ES (nxt c, (1 : Fin 2)) 1)
    ∗ bigSep Finset.univ fun h : Fin 31 => reached ER (C (nxt c) (sRcv1 h)) 0)
/-- What its credit `k` hands over: the turns it has given so far. -/
def crPay (c : Dev nD) (k : ℕ) : sProp 𝕄 :=
  iprop(released ES (nxt c, par k) (k / 2 + 2) ∗ released ES (nxt c, par (k + 1)) ((k + 1) / 2 + 1))
/-- What fetch `r` hands over. -/
def locPay (c : Dev nD) : ℕ → sProp 𝕄
  | 0 => iprop(sPt c 0 (two (acc P 0 c)) ∗ pPt c (rowIx c 1) (P c))
  | h + 1 => iprop(bPt c (blk (P c) (rowIx c (h + 2))) ∗ pPt c (rowIx c (h + 2)) (P c))

/-- What duty `d` of round `r` of a semaphore hands its device `c`. -/
def pay (c : Dev nD) : Kd → ℕ → ℕ → sProp 𝕄
  | .bar0, _, d => if d = 0 then bar0Pay c else iprop(emp)
  | .bar1, _, d => if d = 0 then bar1Pay c else reached ER (C (prv c) sCr) 0
  | .cr, _, d => crPay c d
  | .loc, r, _ => locPay P c r
  | .snd0 h, _, _ => oPt c (rowIx c h.val) (gath xs)
  | .rcv0 h, _, _ => oPt c (rowIx c (h.val + 1)) (gath xs)
  | .snd1 h, _, _ => sPt c (par h.val) (two (acc P h.val c))
  | .rcv1 h, _, _ => vPt c (par h.val) (two (acc P h.val (prv c)))
  | .other, _, _ => iprop(emp)

omit [FloatOps F] in
instance bar0Pay_storable (c : Dev nD) : BI.Storable (upEmb : UEmb _ 𝕄) (bar0Pay (F := F) c) := by unfold bar0Pay; infer_instance
omit [FloatOps F] in
instance bar1Pay_storable (c : Dev nD) : BI.Storable (upEmb : UEmb _ 𝕄) (bar1Pay (F := F) c) := by unfold bar1Pay; infer_instance
omit [FloatOps F] in
instance crPay_storable (c : Dev nD) (k : ℕ) : BI.Storable (upEmb : UEmb _ 𝕄) (crPay (F := F) c k) := by unfold crPay; infer_instance
instance locPay_storable (c : Dev nD) (r : ℕ) : BI.Storable (upEmb : UEmb _ 𝕄) (locPay P c r) := by
  cases r <;> (unfold locPay; infer_instance)

instance pay_storable (c : Dev nD) (k : Kd) (r d : ℕ) : BI.Storable (upEmb : UEmb _ 𝕄) (pay xs P c k r d) := by
  cases k <;> unfold pay
  case bar0 => split <;> infer_instance
  case bar1 => split <;> infer_instance
  all_goals infer_instance

/-- Both rings' schedule. -/
def Rd : Schedule (GSem nD τ sig) ℕ 𝕄 where
  duties g r := if g.1.2 = .tc then dut (kd g.2) r else ∅
  amount g _ _ := amt (kd g.2)
  payload g r d := pay xs P g.1.1 (kd g.2) r d
  amount_pos g _ _ _ := amt_pos _

instance Rd_storable (g : GSem nD τ sig) (r d : ℕ) : BI.Storable (upEmb : UEmb _ 𝕄) ((Rd xs P).payload g r d) := by
  unfold Rd; exact pay_storable xs P _ _ _ _

theorem duties_C (c : Dev nD) (s : SemLoc sig) (r : ℕ) : (Rd xs P).duties (C c s) r = dut (kd s) r := by
  show (if (C c s).1.2 = Proc.tc then dut (kd s) r else ∅) = _; exact if_pos rfl
theorem amount_C (c : Dev nD) (s : SemLoc sig) (r d : ℕ) : (Rd xs P).amount (C c s) r d = amt (kd s) := rfl
theorem payload_C (c : Dev nD) (s : SemLoc sig) (r d : ℕ) : (Rd xs P).payload (C c s) r d = pay xs P c (kd s) r d := rfl

theorem expect_C (c : Dev nD) (s : SemLoc sig) (r : ℕ) : (Rd xs P).expect (C c s) r = (dut (kd s) r).card * amt (kd s) := by
  unfold Schedule.expect Schedule.amountOf
  rw [duties_C]
  simp only [amount_C, Finset.sum_const, smul_eq_mul]

/-- A cell's last round has no successor. -/
theorem duties_end (c : Dev nD) {s : SemLoc sig} (hs : kd s ≠ .loc) (r : ℕ) (hr : 1 ≤ r) : (Rd xs P).duties (C c s) r = ∅ := by
  rw [duties_C]
  obtain ⟨r, rfl⟩ : ∃ r', r = r' + 1 := ⟨r - 1, by omega⟩
  cases hk : kd s <;> first | rfl | exact absurd hk hs
theorem duties_loc_end (c : Dev nD) (r : ℕ) (hr : 32 ≤ r) : (Rd xs P).duties (C c sLoc) r = ∅ := by
  rw [duties_C, kd_loc]; exact if_neg (by omega)

end Schedule

/-! ## Levels and dues -/

/-- The levels there are. -/
abbrev NL : ℕ := 112
abbrev LL : GSem nD τ sig → Finset ℕ := SiteBlocks.L NL
abbrev LV : GSem nD τ sig → ℕ → ℕ := SiteBlocks.lv
/-- One due, told apart from the device that owes it: whether it is to the right, the semaphore, the level, the units. -/
structure Due where
  right : Bool
  s : SemLoc sig
  i : ℕ
  n : ℕ

/-- The neighbour a due is to; the payment; and the same payment as the device that is paid sees it. -/
def Due.to (x : Due) (c : Dev nD) : Dev nD := if x.right then nxt c else prv c
def Due.pay (c : Dev nD) (x : Due) : Pay nD τ sig := (C (x.to c) x.s, x.i, x.n)
def Due.own (c : Dev nD) (x : Due) : Pay nD τ sig := (C c x.s, x.i, x.n)

/-- What a device owes, and what it is owed, under a list of dues. -/
def owed (l : List Due) (c : Dev nD) : CellTallies nD τ sig ℕ := tallyL (l.map (Due.pay c))
def credit (l : List Due) (c : Dev nD) : CellTallies nD τ sig ℕ := tallyL (l.map (Due.own c))

theorem owed_cons (x : Due) (l : List Due) (c : Dev nD) : owed (x :: l) c = owed l c + tallyAt (C (x.to c) x.s) x.i x.n :=
  (add_comm _ _)
theorem owed_append (l l' : List Due) (c : Dev nD) : owed (l ++ l') c = owed l c + owed l' c := by
  unfold owed; rw [List.map_append, TalkSites.tallyL_append]

theorem owed_pos {l : List Due} {c : Dev nD} {g : GSem nD τ sig} {i : ℕ} (h : 0 < owed l c g i) : g.1.2 = .tc ∧ ∃ x ∈ l, i = x.i := by
  obtain ⟨y, hy, hg, hi⟩ := tallyL_pos h
  obtain ⟨x, hx, rfl⟩ := List.mem_map.mp hy
  exact ⟨by rw [hg]; rfl, x, hx, hi⟩

omit [FloatOps F] in
/-- A wait below everything owed. -/
theorem may_wait {l : List Due} (c : Dev nD) (s : SemLoc sig) (i : ℕ) (hi : i < NL) (hl : ∀ x ∈ l, i < x.i ∧ x.i < NL) :
    (levAts LL LV : sProp 𝕄) ⊢ MayWait (c : Thread nD τ) s i (owed l c) :=
  SiteBlocks.mayWait_of hi c s _ fun g k hk => by
    obtain ⟨hg, x, hx, rfl⟩ := owed_pos hk
    exact ⟨SiteBlocks.mem_L' hg (hl x hx).2, (hl x hx).1⟩

omit [FloatOps F] in
/-- What the launch deals a device is the credit of the dues. -/
theorem launch_credit (l : List Due) (c : Dev nD) : (Pipeline.launchCred (fun d => owed l d) c : sProp 𝕄) ⊢ cred (credit l c) := by
  induction l with
  | nil =>
    show (Pipeline.launchCred (fun _ => (0 : CellTallies nD τ sig ℕ)) c : sProp 𝕄) ⊢ cred 0
    rw [Pipeline.launchCred_zero, cred_zero]
  | cons x l ih =>
    have e : (fun d => owed (x :: l) d) = fun d => tallyAt (C (x.to d) x.s) x.i x.n + owed l d := rfl
    rw [e, Pipeline.launchCred_add]
    have h1 : (Pipeline.launchCred (fun d => tallyAt (C (x.to d) x.s) x.i x.n) c : sProp 𝕄) ⊢ cred (tallyAt (C c x.s) x.i x.n) := by
      cases hx : x.right with
      | true =>
        have : (fun d => (tallyAt (C (x.to d) x.s) x.i x.n : CellTallies nD τ sig ℕ)) = fun d => tallyAt (((nxt d).tc : Thread nD τ), x.s) x.i x.n :=
          funext fun d => by unfold Due.to; rw [hx]; rfl
        rw [this]; exact Pipeline.launchCred_tallyAt x.s nxt prv nxt_prv prv_nxt x.i x.n c
      | false =>
        have : (fun d => (tallyAt (C (x.to d) x.s) x.i x.n : CellTallies nD τ sig ℕ)) = fun d => tallyAt (((prv d).tc : Thread nD τ), x.s) x.i x.n :=
          funext fun d => by unfold Due.to; rw [hx]; rfl
        rw [this]; exact Pipeline.launchCred_tallyAt x.s prv nxt prv_nxt nxt_prv x.i x.n c
    exact (BI.sep_mono h1 ih).trans (cred_add _ _).2

/-! ### The dues of both rings, from a point on -/

def dBar0 (right : Bool) : Due := ⟨right, sBar0, 1, 1⟩
def dBar1 (right : Bool) : Due := ⟨right, sBar1, 40, 1⟩
def dRcv0 (h : Fin 31) : Due := ⟨true, sRcv0 h, 2 + h.val, N0⟩
def dRcv1 (h : Fin 31) : Due := ⟨true, sRcv1 h, 50 + 2 * h.val, N1⟩
def dCr (k : ℕ) : Due := ⟨false, sCr, 51 + 2 * k, 1⟩

/-- The hop with `n` after it. -/
abbrev hop (n : ℕ) : Fin 31 := ⟨31 - (n + 1), by omega⟩

/-- The reduce-scatter's last `n` hops; -/
def rsDue : ℕ → List Due
  | 0 => []
  | n + 1 => dRcv1 (hop n) :: if (hop n).val ≤ 28 then dCr (hop n).val :: rsDue n else rsDue n
/-- all of it; -/
def rsAll : List Due := dBar1 false :: dBar1 true :: rsDue 31
/-- the all-gather's last `n` hops and what follows; -/
def agDue : ℕ → List Due
  | 0 => rsAll
  | n + 1 => dRcv0 (hop n) :: agDue n
/-- everything. -/
def allDue : List Due := dBar0 false :: dBar0 true :: agDue 31

theorem rsDue_above (n : ℕ) (hn : n ≤ 31) : ∀ x ∈ rsDue n, 50 + 2 * (31 - n) ≤ x.i ∧ x.i < NL := by
  induction n with
  | zero => intro x hx; exact absurd hx List.not_mem_nil
  | succ n ih =>
    have ih' := ih (by omega)
    intro x hx
    unfold rsDue at hx
    rcases List.mem_cons.mp hx with rfl | hx
    · show 50 + 2 * (31 - (n + 1)) ≤ 50 + 2 * (31 - (n + 1)) ∧ 50 + 2 * (31 - (n + 1)) < 112; omega
    · split at hx
      · rename_i hle
        rcases List.mem_cons.mp hx with rfl | hx
        · have hle' : 31 - (n + 1) ≤ 28 := hle
          show 50 + 2 * (31 - (n + 1)) ≤ 51 + 2 * (31 - (n + 1)) ∧ 51 + 2 * (31 - (n + 1)) < 112; omega
        · have := ih' x hx; omega
      · have := ih' x hx; omega
theorem rsAll_above : ∀ x ∈ rsAll, 40 ≤ x.i ∧ x.i < NL := by
  intro x hx
  rcases List.mem_cons.mp hx with rfl | hx
  · exact ⟨le_refl _, by decide⟩
  rcases List.mem_cons.mp hx with rfl | hx
  · exact ⟨le_refl _, by decide⟩
  have := rsDue_above 31 le_rfl x hx; omega
theorem agDue_above (n : ℕ) (hn : n ≤ 31) : ∀ x ∈ agDue n, 2 + (31 - n) ≤ x.i ∧ x.i < NL := by
  induction n with
  | zero => intro x hx; have := rsAll_above x hx; omega
  | succ n ih =>
    intro x hx
    rcases List.mem_cons.mp hx with rfl | hx
    · show 2 + (31 - (n + 1)) ≤ 2 + (31 - (n + 1)) ∧ 2 + (31 - (n + 1)) < 112; omega
    · have := ih (by omega) x hx; omega
theorem allDue_above : ∀ x ∈ allDue, 1 ≤ x.i ∧ x.i < NL := by
  intro x hx
  rcases List.mem_cons.mp hx with rfl | hx
  · exact ⟨le_refl _, by decide⟩
  rcases List.mem_cons.mp hx with rfl | hx
  · exact ⟨le_refl _, by decide⟩
  have := agDue_above 31 le_rfl x hx; omega

/-! ## Hop by hop -/

/-- `Φ` of the last `n` hops. -/
def lst (Φ : Fin 31 → sProp 𝕄) : ℕ → sProp 𝕄
  | 0 => iprop(emp)
  | n + 1 => iprop(Φ (hop n) ∗ lst Φ n)

omit [FloatOps F] in
theorem lst_eq_aux (Φ : Fin 31 → sProp 𝕄) (n : ℕ) (hn : n ≤ 31) : lst Φ n = bigSep (Finset.univ.filter fun h : Fin 31 => 31 - n ≤ h.val) Φ := by
  induction n with
  | zero =>
    rw [show (Finset.univ.filter fun h : Fin 31 => 31 - 0 ≤ h.val) = ∅ from Finset.filter_eq_empty_iff.mpr fun h _ => by have := h.isLt; omega, bigSep_empty]
    rfl
  | succ n ih =>
    have hm : hop n ∉ (Finset.univ.filter fun h : Fin 31 => 31 - n ≤ h.val) := by
      rw [Finset.mem_filter]; rintro ⟨-, h⟩
      have h' : 31 - n ≤ 31 - (n + 1) := h
      omega
    rw [show (Finset.univ.filter fun h : Fin 31 => 31 - (n + 1) ≤ h.val) = insert (hop n) (Finset.univ.filter fun h : Fin 31 => 31 - n ≤ h.val) from by
      ext h
      simp only [Finset.mem_insert, Finset.mem_filter, Finset.mem_univ, true_and, Fin.ext_iff]
      omega]
    rw [bigSep_insert hm, ← ih (by omega)]
    rfl

omit [FloatOps F] in
/-- Of all hops. -/
theorem lst_eq (Φ : Fin 31 → sProp 𝕄) : lst Φ 31 = bigSep Finset.univ Φ := by
  rw [lst_eq_aux Φ 31 le_rfl]
  rw [Finset.filter_true_of_mem fun h _ => by omega]

/-! ## The cells -/

/-- The semaphores each call scopes: one send and one receive semaphore a hop, and for the reduce-scatter the local one and the credits'. -/
abbrev Ky0 : Type := Fin 31 ⊕ Fin 31
abbrev Ky1 : Type := (Fin 31 ⊕ Fin 31) ⊕ Fin 2
def osem0 : Ky0 → SemLoc sig
  | .inl h => sSnd0 h
  | .inr h => sRcv0 h
def osem1 : Ky1 → SemLoc sig
  | .inl (.inl h) => sSnd1 h
  | .inl (.inr h) => sRcv1 h
  | .inr 0 => sLoc
  | .inr 1 => sCr
def osem : Ky0 ⊕ Ky1 → SemLoc sig
  | .inl y => osem0 y
  | .inr y => osem1 y
def bsem (b : Fin 2) : SemLoc sig := if b = 0 then sBar0 else sBar1

/-- The semaphore of a purpose, if a call scopes it. -/
def unK : Kd → Option (Ky0 ⊕ Ky1)
  | .snd0 h => some (.inl (.inl h))
  | .rcv0 h => some (.inl (.inr h))
  | .snd1 h => some (.inr (.inl (.inl h)))
  | .rcv1 h => some (.inr (.inl (.inr h)))
  | .loc => some (.inr (.inr 0))
  | .cr => some (.inr (.inr 1))
  | _ => none

theorem unK_osem : ∀ y : Ky0 ⊕ Ky1, unK (kd (osem y)) = some y
  | .inl (.inl h) => congrArg unK (kd_snd0 h)
  | .inl (.inr h) => congrArg unK (kd_rcv0 h)
  | .inr (.inl (.inl h)) => congrArg unK (kd_snd1 h)
  | .inr (.inl (.inr h)) => congrArg unK (kd_rcv1 h)
  | .inr (.inr 0) => congrArg unK kd_loc
  | .inr (.inr 1) => congrArg unK kd_cr
theorem unK_bsem (b : Fin 2) : unK (kd (bsem b)) = none := by
  fin_cases b
  · exact congrArg unK kd_bar0
  · exact congrArg unK kd_bar1
theorem osem_injective : Function.Injective osem := fun y y' e =>
  Option.some.inj ((unK_osem y).symm.trans ((congrArg (fun s => unK (kd s)) e).trans (unK_osem y')))
theorem bsem_injective : Function.Injective bsem := by
  intro b b' e
  have e' := congrArg kd e
  fin_cases b <;> fin_cases b'
  · rfl
  · exact absurd ((kd_bar0.symm.trans e').trans kd_bar1) (by decide)
  · exact absurd ((kd_bar1.symm.trans e').trans kd_bar0) (by decide)
  · rfl
theorem osem_ne_bsem (y : Ky0 ⊕ Ky1) (b : Fin 2) : osem y ≠ bsem b := fun e =>
  Option.some_ne_none y ((unK_osem y).symm.trans ((congrArg (fun s => unK (kd s)) e).trans (unK_bsem b)))

/-- All devices' cells of those semaphores, and all barrier cells. -/
def ownEmb : Dev nD × (Ky0 ⊕ Ky1) ↪ GSem nD τ sig :=
  ⟨fun p => C p.1 (osem p.2), fun p p' h => Prod.ext (congrArg (fun g : GSem nD τ sig => g.1.1) h) (osem_injective (congrArg Prod.snd h))⟩
def barEmb : Dev nD × Fin 2 ↪ GSem nD τ sig :=
  ⟨fun p => C p.1 (bsem p.2), fun p p' h => Prod.ext (congrArg (fun g : GSem nD τ sig => g.1.1) h) (bsem_injective (congrArg Prod.snd h))⟩
def ownCells : Finset (GSem nD τ sig) := Finset.univ.map ownEmb
def barCells : Finset (GSem nD τ sig) := Finset.univ.map barEmb

theorem disjoint_cells : Disjoint barCells ownCells := Finset.disjoint_left.mpr fun g hg hg' => by
  obtain ⟨p, -, rfl⟩ := Finset.mem_map.mp hg
  obtain ⟨p', -, e⟩ := Finset.mem_map.mp hg'
  exact osem_ne_bsem p'.2 p.2 (congrArg Prod.snd e)

/-- The keys of the receive slots' turns. -/
abbrev keys : Finset (Dev nD × Fin 2) := Finset.univ

theorem mem_own (c : Dev nD) (y : Ky0 ⊕ Ky1) : C c (osem y) ∈ barCells ∪ ownCells :=
  Finset.mem_union_right _ (Finset.mem_map.mpr ⟨(c, y), Finset.mem_univ _, rfl⟩)
theorem mem_bar (c : Dev nD) (b : Fin 2) : C c (bsem b) ∈ barCells := Finset.mem_map.mpr ⟨(c, b), Finset.mem_univ _, rfl⟩

section Records

variable (xs : Dev nD → Vec F S512x1024 .bf16) (P : Dev nD → Vec F S32x512x1024 .f32) (κ : GSem nD τ sig → ℕ) (σ : Dev nD × Fin 2 → ℕ)

/-- What every device may rely on throughout: all cells' invariants, all slots', the barrier cells' first round, the levels. -/
def recs : sProp 𝕄 :=
  iprop((bigSep (barCells ∪ ownCells) fun g => cellInv ER (Rd xs P) (κ g) g) ∗ (bigSep keys fun k => slotInv ES (σ k) k (vSl (F := F) k))
    ∗ (bigSep barCells fun g => reached ER g 0) ∗ levAts LL LV)

instance recs_persistent : Persistent (recs xs P κ σ) := by unfold recs; infer_instance

theorem recs_own (c : Dev nD) (y : Ky0 ⊕ Ky1) : recs xs P κ σ ⊢ cellInv ER (Rd xs P) (κ (C c (osem y))) (C c (osem y)) := by
  unfold recs
  have h : (bigSep (barCells ∪ ownCells) fun g => cellInv ER (Rd xs P) (κ g) g) ⊢ cellInv ER (Rd xs P) (κ (C c (osem y))) (C c (osem y)) :=
    bigSep_elim (mem_own c y)
  iintro ⟨H, -⟩
  iapply h
  iexact H
theorem recs_bar (c : Dev nD) (b : Fin 2) :
    recs xs P κ σ ⊢ iprop(cellInv ER (Rd xs P) (κ (C c (bsem b))) (C c (bsem b)) ∗ reached ER (C c (bsem b)) 0) := by
  unfold recs
  have h : (bigSep (barCells ∪ ownCells) fun g => cellInv ER (Rd xs P) (κ g) g) ⊢ cellInv ER (Rd xs P) (κ (C c (bsem b))) (C c (bsem b)) :=
    bigSep_elim (Finset.mem_union_left _ (mem_bar c b))
  have h' : (bigSep barCells fun g => (reached ER g 0 : sProp 𝕄)) ⊢ reached ER (C c (bsem b)) 0 := bigSep_elim (mem_bar c b)
  iintro ⟨#H, -, #Hr, -⟩
  isplitr
  · iapply h
    iexact H
  · iapply h'
    iexact Hr
theorem recs_slot (k : Dev nD × Fin 2) : recs xs P κ σ ⊢ slotInv ES (σ k) k (vSl (F := F) k) := by
  unfold recs
  have h : (bigSep keys fun k => slotInv ES (σ k) k (vSl (F := F) k)) ⊢ slotInv ES (σ k) k (vSl (F := F) k) := bigSep_elim (Finset.mem_univ k)
  iintro ⟨-, H, -⟩
  iapply h; iexact H
theorem recs_may {l : List Due} (c : Dev nD) (s : SemLoc sig) (i : ℕ) (hi : i < NL) (hl : ∀ x ∈ l, i < x.i ∧ x.i < NL) :
    recs xs P κ σ ⊢ MayWait (c : Thread nD τ) s i (owed l c) := by
  unfold recs
  iintro ⟨-, -, -, H⟩
  iapply (may_wait c s i hi hl); iexact H

end Records

end Cert.K
-- ==== Proof.Bufs.lean ====
/-
  What the stores of the two bodies leave in their buffers, and how the gathered array splits into a device's own row and the thirty-one others.
-/
module

public import proofs.«01_k».proof.Proof.Sched

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx

variable {F : FTy → Type} [FloatOps F]

local notation "𝕄" => MT nD τ sig ℕ (Elt F) ℕ UU ℕ

omit [FloatOps F] in
/-- `BI.bigSep_sep` and `BI.bigSep_insert` in the assertion language's own notation. -/
theorem sep_split {I : Type} (s : Finset I) (Φ Ψ : I → sProp 𝕄) : (bigSep s fun i => iprop(Φ i ∗ Ψ i)) = iprop(bigSep s Φ ∗ bigSep s Ψ) := bigSep_sep s Φ Ψ
omit [FloatOps F] in
theorem sep_cons {I : Type} [DecidableEq I] {s : Finset I} {i : I} (hi : i ∉ s) (Φ : I → sProp 𝕄) : bigSep (insert i s) Φ = iprop(Φ i ∗ bigSep s Φ) := bigSep_insert hi

omit [FloatOps F] in
theorem sep_each {I : Type} (s : Finset I) {Φ Ψ : I → sProp 𝕄} (h : ∀ i, Φ i ⊢ Ψ i) : bigSep s Φ ⊢ bigSep s Ψ := bigSep_mono fun i _ => h i

section Contents

omit [FloatOps F] in
/-- A view written with what it reads in `g` is `g` on the view. -/
theorem view_write_eq {sp : Space} {s : Shape} {e : EltTy} (v : View sig .tc sp s e) (f g : v.ty.Contents (Elt F)) (w : s.Idx → Elt F e)
    (hw : w = v.read (Elt F) g) : ∀ i ∈ v.set, v.write (Elt F) f w Finset.univ i = g i := by
  intro i hi
  subst hw
  rw [View.write_read_eq_piecewise]
  exact Finset.piecewise_eq_of_mem _ _ _ hi

theorem row_emb_one (r : Fin 32) (y : S1x512x1024.Idx) : (rowR r).emb y = ix3 r (y 1) (y 2) := by
  have h0 : (y 0).val < 1 := (y 0).isLt
  funext a; apply Fin.ext
  fin_cases a
  · show r.val + 1 * (y 0).val = r.val; omega
  · show 0 + 1 * (y 1).val = (y 1).val; omega
  · show 0 + 1 * (y 2).val = (y 2).val; omega
theorem slot_emb_one (b : Fin 2) (y : S1x512x1024.Idx) : (slotR b).emb y = ix3 b (y 1) (y 2) := by
  have h0 : (y 0).val < 1 := (y 0).isLt
  funext a; apply Fin.ext
  fin_cases a
  · show b.val + 1 * (y 0).val = b.val; omega
  · show 0 + 1 * (y 1).val = (y 1).val; omega
  · show 0 + 1 * (y 2).val = (y 2).val; omega

theorem ix3_self (y : S1x512x1024.Idx) : ix3 (y 0) (y 1) (y 2) = y := by funext a; fin_cases a <;> rfl

omit [FloatOps F] in
/-- A block as an array of one. -/
theorem cast_one {e : EltTy} (v : Vec F S512x1024 e) (h : S512x1024.ShapeCasts S1x512x1024) (y : S1x512x1024.Idx) :
    shapeCast S1x512x1024 v h y = v (ix2 (y 1) (y 2)) :=
  (congrArg (shapeCast S1x512x1024 v h) (ix3_self y).symm).trans (shapeCast_ab_1ab_apply v h (y 0) (y 1) (y 2))

omit [FloatOps F] in
/-- The array of one read from a slot is the block. -/
theorem cast_slot (M : Memref sig .tc .vmem S2x512x1024 .f32) (b : Fin 2) (u : Vec F S512x1024 .f32) (v : Vec F S1x512x1024 .f32)
    (hv : ∀ y, v y = u (ix2 (y 1) (y 2))) (h : S1x512x1024.ShapeCasts S512x1024) : shapeCast S512x1024 v h = u := by
  funext x
  refine (congrArg (shapeCast S512x1024 v h) (ix2_self x).symm).trans ((shapeCast_1ab_ab_apply v h (x 0) (x 1)).trans ((hv _).trans ?_))
  exact congrArg u (ix2_self x)

omit [FloatOps F] in
theorem read_oAcc (r : Fin 32) (f : Vec F S32x512x1024 .bf16) : (oM.access (rowR r)).read (Elt F) f = fun y => f (ix3 r (y 1) (y 2)) := by
  funext y; exact congrArg f (row_emb_one r y)
omit [FloatOps F] in
theorem read_sAcc (b : Fin 2) (f : Vec F S2x512x1024 .f32) : (sM.access (slotR b)).read (Elt F) f = fun y => f (ix3 b (y 1) (y 2)) := by
  funext y; exact congrArg f (slot_emb_one b y)
omit [FloatOps F] in
theorem readAt_vAcc (b : Fin 2) (f : Vec F S2x512x1024 .f32) : (vM.view.readAt (Elt F) (slotR b).toLoadRect) f = fun y => f (ix3 b (y 1) (y 2)) := by
  funext y; exact congrArg f (slot_emb_one b y)

/-- The row a device stores in its gathered array. -/
theorem own_row (xs : Dev nD → Vec F S512x1024 .bf16) (c : Dev nD) (r : Fin 32) (hr : r.val = c.val) :
    k0_pay1 (xs c) = (oM.access (rowR r)).read (Elt F) (gath xs) := by
  obtain rfl : r = c := Fin.ext hr
  rw [read_oAcc]
  funext y
  show k0_pay1 (xs r) y = xs r (ix2 (y 1) (y 2))
  unfold k0_pay1
  refine (cast_one _ _ y).trans ?_
  exact congrArg (xs r) (Shape.reshapeEquiv_self _ _)

/-- What the loads of a receive slot and of the fetch buffer add up to. -/
theorem sum_slot (b : Fin 2) (u w : Vec F S512x1024 .f32) : k1_pay1 ((vM.view.readAt (Elt F) (slotR b).toLoadRect) (two u)) w = addf u w := by
  rw [readAt_vAcc]
  unfold k1_pay1
  exact congrArg (fun z => addf z w) (cast_slot vM b u _ (fun y => rfl) _)
theorem fill_slot (b b' : Fin 2) (u w : Vec F S512x1024 .f32) :
    k1_pay2 ((vM.view.readAt (Elt F) (slotR b).toLoadRect) (two u)) w = (sM.access (slotR b')).read (Elt F) (two (addf u w)) := by
  rw [readAt_vAcc, read_sAcc]
  funext y
  show k1_pay2 (fun y => two u (ix3 b (y 1) (y 2))) w y = addf u w (ix2 (y 1) (y 2))
  unfold k1_pay2
  refine (cast_one (F := F) (e := .f32) _ _ y).trans ?_
  exact congrFun (congrArg (fun z => addf z w) (cast_slot vM b u _ (fun y => rfl) _)) _

theorem zero2 : (![0, 0] : Fin 2 → Nat) = fun _ => 0 := by funext a; fin_cases a <;> rfl

end Contents

/-! ## Rows of the gathered array -/

theorem mem_oRow (e : Dev nD) (k : ℕ) (i : S32x512x1024.Idx) : i ∈ (rowM oM (rowIx e k)).view.set ↔ (i 0).val = (e.val + 64 - k) % 32 :=
  (oRow_set (rowIx e k) ▸ mem_lead _ i : _)

theorem rows_cover (e : Dev nD) : (Finset.univ.biUnion fun h : Fin 31 => (rowM oM (rowIx e h.val)).view.set) = Finset.univ \ (rowM oM (rowIx e 31)).view.set := by
  have he : e.val < 32 := e.isLt
  refine Finset.ext fun (i : S32x512x1024.Idx) => ?_
  have hi : (i 0).val < 32 := (i 0).isLt
  rw [Finset.mem_biUnion, Finset.mem_sdiff]
  constructor
  · rintro ⟨h, -, hh⟩
    refine ⟨Finset.mem_univ _, fun h' => ?_⟩
    have a := (mem_oRow e h.val i).mp hh
    have b := (mem_oRow e 31 i).mp h'
    have := h.isLt; omega
  · rintro ⟨-, h'⟩
    have m := mem_oRow e 31 i
    have h'' := mt m.mpr h'
    clear m h'
    obtain ⟨k, hk, hik⟩ : ∃ k, k < 31 ∧ (i 0).val = (e.val + 64 - k) % 32 := ⟨(e.val + 64 - (i 0).val) % 32, by omega, by omega⟩
    have m := (mem_oRow e k i).mpr hik
    exact ⟨⟨k, hk⟩, Finset.mem_univ _, m⟩
theorem rows_disjoint (e : Dev nD) : ∀ h ∈ (Finset.univ : Finset (Fin 31)), ∀ h' ∈ (Finset.univ : Finset (Fin 31)), h ≠ h' →
    Disjoint (rowM oM (rowIx e h.val)).view.set (rowM oM (rowIx e h'.val)).view.set := by
  have he : e.val < 32 := e.isLt
  intro h _ h' _ hne
  refine Finset.disjoint_left.mpr fun (i : S32x512x1024.Idx) hi hi' => ?_
  have a := (mem_oRow e h.val i).mp hi
  have b := (mem_oRow e h'.val i).mp hi'
  have := h.isLt; have := h'.isLt
  exact hne (Fin.ext (by omega))

omit [FloatOps F] in
/-- The whole gathered array is the row of hop `31` and the rows of the other hops. -/
theorem out_rows (e c : Dev nD) (f : Vec F S32x512x1024 .bf16) :
    (oM.view.loc (c : Thread nD τ) ↦[Finset.univ]{fullShare} f : sProp 𝕄) ⊣⊢ iprop(oPt c (rowIx e 31) f ∗ bigSep Finset.univ fun h : Fin 31 => oPt (F := F) c (rowIx e h.val) f) := by
  have h1 := pointsTo_split_subset (nD := nD) (τ := τ) (sig := sig) (Ix := ℕ) (Val := Elt F) (Name := ℕ) (U := UU) (Lvl := ℕ) (ℓ := oM.view.loc (c : Thread nD τ)) (q := fullShare) (f := f) (Finset.subset_univ (rowM oM (rowIx e 31)).view.set)
  rw [← rows_cover e, pointsTo_biUnion _ _ (rows_disjoint e)] at h1
  exact h1

omit [FloatOps F] in
/-- A store over a row, as the row's new contents. -/
theorem row_store (c : Dev nD) (r : Fin 32) (f g : Vec F S32x512x1024 .bf16) (w : Vec F S1x512x1024 .bf16) (hw : w = (oM.access (rowR r)).read (Elt F) g) :
    (oPt c r g : sProp 𝕄) = ((oM.access (rowR r)).loc (c : Thread nD τ) ↦[(rowM oM r).view.set]{fullShare} ((oM.access (rowR r)).write (Elt F) f w Finset.univ)) := by
  have h : ∀ i ∈ (rowM oM r).view.set, g i = (oM.access (rowR r)).write (Elt F) f w Finset.univ i := fun i hi =>
    (view_write_eq (oM.access (rowR r)) f g w hw i (by rw [oAcc_set]; rw [oRow_set] at hi; exact hi)).symm
  unfold oPt
  exact pointsTo_congr h
omit [FloatOps F] in
/-- A store over a send slot, as the slot's new contents. -/
theorem slot_store (c : Dev nD) (b : Fin 2) (f g : Vec F S2x512x1024 .f32) (w : Vec F S1x512x1024 .f32) (hw : w = (sM.access (slotR b)).read (Elt F) g) :
    (sPt c b g : sProp 𝕄) = ((sM.access (slotR b)).loc (c : Thread nD τ) ↦[(slotM sM b).view.set]{fullShare} ((sM.access (slotR b)).write (Elt F) f w Finset.univ)) := by
  have h : ∀ i ∈ (slotM sM b).view.set, g i = (sM.access (slotR b)).write (Elt F) f w Finset.univ i := fun i hi =>
    (view_write_eq (sM.access (slotR b)) f g w hw i (by rw [sAcc_set]; rw [sSlot_set] at hi; exact hi)).symm
  unfold sPt
  exact pointsTo_congr h

omit [FloatOps F] in
theorem read_xM (f : Vec F S512x1024 .bf16) :
    xM.view.readAt (Elt F) (Rect.unit (s := S512x1024) ![0, 0] S512x1024.size inb_S512x1024_S512x1024_0_0).toLoadRect f = f :=
  Memref.readAt_unit_zero (Elt F) cc0_stg0_0 zero2 _ f
omit [FloatOps F] in
theorem read_bM (f : Vec F S512x1024 .f32) : bM.view.readAt (Elt F) fullR.toLoadRect f = f :=
  Memref.readAt_unit_zero (Elt F) cc1_scratch2 zero2 _ f
omit [FloatOps F] in
theorem write_rM (f w : Vec F S512x1024 .f32) : (rM.access fullR).write (Elt F) f w Finset.univ = w :=
  Memref.write_access_unit_zero_univ (Elt F) cc1_stg0_0 zero2 _ f w

end Cert.K
-- ==== Proof.AgBody.lean ====
/-
  The all-gather's body, run once at a device of no particular number: each hop sends a row to the right, waits for the send and for the row that
  comes from the left, and closes both semaphores.
-/
module

public import proofs.«01_k».proof.Proof.Bufs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

abbrev 𝒱₀ : Variants := Variants.none

variable (xs : Dev nD → Vec F S512x1024 .bf16) (P : Dev nD → Vec F S32x512x1024 .f32) (κ : GSem nD τ sig → ℕ) (σ : Dev nD × Fin 2 → ℕ)

theorem recs_snd0 (c : Dev nD) (h : Fin 31) : recs xs P κ σ ⊢ cellInv ER (Rd xs P) (κ (C c (sSnd0 h))) (C c (sSnd0 h)) := recs_own xs P κ σ c (.inl (.inl h))
theorem recs_rcv0 (c : Dev nD) (h : Fin 31) : recs xs P κ σ ⊢ cellInv ER (Rd xs P) (κ (C c (sRcv0 h))) (C c (sRcv0 h)) := recs_own xs P κ σ c (.inl (.inr h))
theorem recs_snd1 (c : Dev nD) (h : Fin 31) : recs xs P κ σ ⊢ cellInv ER (Rd xs P) (κ (C c (sSnd1 h))) (C c (sSnd1 h)) := recs_own xs P κ σ c (.inr (.inl (.inl h)))
theorem recs_rcv1 (c : Dev nD) (h : Fin 31) : recs xs P κ σ ⊢ cellInv ER (Rd xs P) (κ (C c (sRcv1 h))) (C c (sRcv1 h)) := recs_own xs P κ σ c (.inr (.inl (.inr h)))
theorem recs_loc (c : Dev nD) : recs xs P κ σ ⊢ cellInv ER (Rd xs P) (κ (C c sLoc)) (C c sLoc) := recs_own xs P κ σ c (.inr (.inr 0))
theorem recs_cr (c : Dev nD) : recs xs P κ σ ⊢ cellInv ER (Rd xs P) (κ (C c sCr)) (C c sCr) := recs_own xs P κ σ c (.inr (.inr 1))
theorem recs_bar0 (c : Dev nD) : recs xs P κ σ ⊢ iprop(cellInv ER (Rd xs P) (κ (C c sBar0)) (C c sBar0) ∗ reached ER (C c sBar0) 0) := recs_bar xs P κ σ c 0
theorem recs_bar1 (c : Dev nD) : recs xs P κ σ ⊢ iprop(cellInv ER (Rd xs P) (κ (C c sBar1)) (C c sBar1) ∗ reached ER (C c sBar1) 0) := recs_bar xs P κ σ c 1

theorem pay_snd0 (c : Dev nD) (h : Fin 31) (r d : ℕ) : pay xs P c (.snd0 h) r d = oPt c (rowIx c h.val) (gath xs) := by unfold pay; rfl
theorem pay_rcv0 (c : Dev nD) (h : Fin 31) (r d : ℕ) : pay xs P c (.rcv0 h) r d = oPt c (rowIx c (h.val + 1)) (gath xs) := by unfold pay; rfl
theorem N0_amount (r : Fin 32) (s : DmaSem sig) : (rowM oM r).view.amount (.dma s) = N0 := N0_o r

/-- A wait for all of a semaphore's one round, after which the semaphore closes. -/
theorem wait_all (c : Dev nD) (s : SemLoc sig) (N : ℕ) {w : TpuEff nD τ sig (Elt F) Λ₀ .tc PUnit} {α : Type} {Q : α → sProp 𝕄}
    {k : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ s N K)
    {Y : sProp 𝕄} {D : Finset ℕ} (hd : dut (kd s) 0 = D) (hY : (bigSep D fun d => pay xs P c (kd s) 0 d) = Y) (hN : N = D.card * amt (kd s)) (hs : kd s ≠ .loc) (i : ℕ) (hi : i < NL) {l : List Due} (hl : ∀ x ∈ l, i < x.i ∧ x.i < NL) {W : Waits sig ℕ} :
    iprop(recs xs P κ σ ∗ cellInv ER (Rd xs P) (κ (C c s)) (C c s) ∗ cred (tallyAt (C c s) i N) ∗ owes (c : Thread nD τ) (owed l c) W ∗ atPos ER (C c s) 0 ∅ 0)
      ⊢ iprop((((∃ W', owes (c : Thread nD τ) (owed l c) W') ∗ semVal (C c s) 0 ∗ Y)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, #HI, Hc, HO, Hat⟩ Hk
  iapply (Rounds.wp_wait_rest_token 𝒱₀ ER (Rd xs P) (c : Thread nD τ) none (κ := κ (C c s)) hw (Set.mem_univ _) i
      (O := owed l c) (W := W) (R := 0) (m := 0) (T := ∅)
      (by rw [Nat.zero_add]; exact hN.trans (by rw [expect_C, hd]))) $$ [Hc HO Hat]
  · isplitr; · iexact HI
    isplitl [Hc]; · iexact Hc
    isplitl [HO]; · iexact HO
    isplitr
    · iapply (recs_may xs P κ σ c s i hi hl); iexact HR
    iexact Hat
  iintro ⟨HO, Hat, -, Hpay⟩
  have e : (bigSep ((Rd xs P).duties (C c s) 0 \ ∅) fun d => (Rd xs P).payload (C c s) 0 d) = Y := by
    rw [Finset.sdiff_empty, duties_C, hd]; exact hY
  ihave Hp := (Entails.of_eq e) $$ Hpay
  imod (Rounds.cell_close ER (Rd xs P) (Set.mem_univ (κ (C c s))) (fun h => h) (R := 0 + 1) (fun r hr => duties_end xs P c hs r hr)) $$ [Hat] with Hz
  · isplitr; · iexact HI
    iexact Hat
  iapply Hk
  isplitl [HO]; · iexists _; iexact HO
  isplitl [Hz]; · iexact Hz
  iexact Hp

/-- A wait for a semaphore's one transfer, after which the semaphore closes. -/
theorem wait_close (c : Dev nD) (s : SemLoc sig) (N : ℕ) {w : TpuEff nD τ sig (Elt F) Λ₀ .tc PUnit} {α : Type} {Q : α → sProp 𝕄}
    {k : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ s N K)
    {Y : sProp 𝕄} (hY : pay xs P c (kd s) 0 0 = Y) (hd : dut (kd s) 0 = {0}) (hN : N = amt (kd s)) (hs : kd s ≠ .loc) (i : ℕ) (hi : i < NL) {l : List Due} (hl : ∀ x ∈ l, i < x.i ∧ x.i < NL) {W : Waits sig ℕ} :
    iprop(recs xs P κ σ ∗ cellInv ER (Rd xs P) (κ (C c s)) (C c s) ∗ cred (tallyAt (C c s) i N) ∗ owes (c : Thread nD τ) (owed l c) W ∗ atPos ER (C c s) 0 ∅ 0)
      ⊢ iprop((((∃ W', owes (c : Thread nD τ) (owed l c) W') ∗ semVal (C c s) 0 ∗ Y)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) :=
  wait_all xs P κ σ c s N hw hd (by rw [bigSep_singleton]; exact hY) (by rw [Finset.card_singleton, Nat.one_mul]; exact hN) hs i hi hl

/-- A signal of one unit to a neighbour's semaphore, paying one duty of its one round. -/
theorem sig_pay (c n d : Dev nD) (hn : n = d) (a : Sem sig) (t m : ℕ) (hm : 1 = m) (x : Due) (hx : C (x.to c) x.s = C d (.reg a)) (hxn : x.n = 1)
    (hd : t ∈ dut (kd (.reg a)) 0) (ha : amt (kd (.reg a)) = 1) {Y : sProp 𝕄} (hY : pay xs P d (kd (.reg a)) 0 t = Y) {α : Type} {Q : α → sProp 𝕄}
    {k : PUnit → Prog (TpuEff nD τ sig (Elt F) Λ₀ .tc) α} (l : List Due) (W : Waits sig ℕ) :
    iprop(cellInv ER (Rd xs P) (κ (C d (.reg a))) (C d (.reg a)) ∗ owes (c : Thread nD τ) (owed (x :: l) c) W ∗ dutyTok ER (C d (.reg a)) 0 t ∗ Y
        ∗ reached ER (C d (.reg a)) 0)
      ⊢ iprop((owes (c : Thread nD τ) (owed l c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) a m) k) Q) := by
  subst hn hm hY
  have hO : owed (x :: l) c = owed l c + tallyAt (C n (.reg a)) x.i 1 := by rw [owed_cons, hx, hxn]
  exact Rounds.wp_signal (Es := Set.univ) (defs := defs₀ (F := F)) (Q := Q) (k := k) 𝒱₀ ER (Rd xs P) (c : Thread nD τ) none (dst := (n : Thread nD τ)) (κ := κ (C n (.reg a)))
    (by rw [duties_C]; exact hd) ((amount_C xs P n (.reg a) 0 t).trans ha) x.i (owed l c) hO

/-! ## One hop -/

/-- What a hop starts from, beside the row it sends: its semaphores' tokens, the right neighbour's row, the credit for the row to come. -/
def agRes (c : Dev nD) (h : Fin 31) : sProp 𝕄 :=
  iprop(atPos ER (C c (sSnd0 h)) 0 ∅ 0 ∗ reached ER (C c (sSnd0 h)) 0 ∗ atPos ER (C c (sRcv0 h)) 0 ∅ 0
    ∗ dutyTok ER (C c (sSnd0 h)) 0 0 ∗ dutyTok ER (C (nxt c) (sRcv0 h)) 0 0 ∗ reached ER (C (nxt c) (sRcv0 h)) 0
    ∗ (∃ f, oPt (F := F) (nxt c) (rowIx c h.val) f) ∗ cred (tallyAt (C c (sRcv0 h)) (2 + h.val) N0))
/-- What a hop leaves behind. -/
def agDone (c : Dev nD) (h : Fin 31) : sProp 𝕄 :=
  iprop((semVal (C c (sSnd0 h)) 0 ∗ semVal (C c (sRcv0 h)) 0) ∗ oPt c (rowIx c h.val) (gath xs))

/-- The send, addressed to a device that equals the right neighbour, from a view that equals the row. -/
theorem ag_send (c n : Dev nD) (hn : n = nxt c) (h : Fin 31) (M : Memref sig .tc .vmem S512x1024 .bf16) (hM : M = rowM oM (rowIx c h.val))
    {hsc : (M : Memref sig (Dev.tc n : Thread nD τ).2.kind .vmem S512x1024 .bf16).view.ref.isScScratch = false}
    {hsrc : M.view.WordExact} {hdst : M.view.WordExact}
    {hsem : DmaTarget.Typed .vmem (.dma (semAt cc0_scratch1 h)) (.remote (Dev.tc n : Thread nD τ) (M : Memref sig .tc .vmem S512x1024 .bf16) (.dma (semAt cc0_scratch0 h)) hsc)}
    {α : Type} {Q : α → sProp 𝕄} {k : PUnit → Prog (TpuEff nD τ sig (Elt F) Λ₀ .tc) α} (f : Vec F S32x512x1024 .bf16) (l : List Due) (W : Waits sig ℕ) :
    iprop(cellInv ER (Rd xs P) (κ (C c (sSnd0 h))) (C c (sSnd0 h)) ∗ cellInv ER (Rd xs P) (κ (C (nxt c) (sRcv0 h))) (C (nxt c) (sRcv0 h))
        ∗ oPt c (rowIx c h.val) (gath xs) ∗ oPt (nxt c) (rowIx c h.val) f
        ∗ owes (c : Thread nD τ) (owed (dRcv0 h :: l) c) W
        ∗ dutyTok ER (C c (sSnd0 h)) 0 0 ∗ reached ER (C c (sSnd0 h)) 0
        ∗ dutyTok ER (C (nxt c) (sRcv0 h)) 0 0 ∗ reached ER (C (nxt c) (sRcv0 h)) 0)
      ⊢ iprop(((cred (tallyAt (C c (sSnd0 h)) 0 N0) ∗ owes (c : Thread nD τ) (owed l c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M (.dma (semAt cc0_scratch0 h)) hsc) (.dma (semAt cc0_scratch1 h)) hsrc hdst hsem) k) Q) := by
  subst hn hM
  have p1 : ((rowM oM (rowIx c h.val)).view.loc (c : Thread nD τ) ↦[(rowM oM (rowIx c h.val)).view.set]{fullShare} (gath xs : Vec F S32x512x1024 .bf16))
      ⊢ (Rd xs P).payload (C c (sSnd0 h)) 0 0 := by
    rw [payload_C, kd_snd0, pay_snd0]; exact BI.Entails.refl _
  have p2 : ((rowM oM (rowIx c h.val)).view.loc (nxt c : Thread nD τ) ↦[(rowM oM (rowIx c h.val)).view.set]{fullShare}
      ((rowM oM (rowIx c h.val)).view.write (Elt F) f ((rowM oM (rowIx c h.val)).view.read (Elt F) (gath xs : Vec F S32x512x1024 .bf16)) Finset.univ))
      ⊢ (Rd xs P).payload (C (nxt c) (sRcv0 h)) 0 0 := by
    rw [payload_C, kd_rcv0, pay_rcv0, rowIx_nxt c h.val (by have := h.isLt; omega)]
    exact Entails.of_eq (pointsTo_congr (write_eq (rowM oM (rowIx c h.val)) f (gath xs) _ rfl))
  have d1 : 0 ∈ (Rd xs P).duties (C c (sSnd0 h)) 0 := by rw [duties_C, kd_snd0]; exact Finset.mem_singleton_self _
  have d2 : 0 ∈ (Rd xs P).duties (C (nxt c) (sRcv0 h)) 0 := by rw [duties_C, kd_rcv0]; exact Finset.mem_singleton_self _
  have a1 : (Rd xs P).amount (C c (sSnd0 h)) 0 0 = N0 := by rw [amount_C, kd_snd0]; rfl
  have a2 : (Rd xs P).amount (C (nxt c) (sRcv0 h)) 0 0 = N0 := by rw [amount_C, kd_rcv0]; rfl
  have hr : τ.routes (c : Thread nD τ) (nxt c : Thread nD τ) = true := by routes
  unfold oPt
  refine Rounds.wp_send_pointsTo (Es := Set.univ) (defs := defs₀ (F := F)) (Q := Q) (k := k) (hsc := hsc) (hsrc := hsrc) (hdst := hdst) (hsem := hsem) 𝒱₀ ER (Rd xs P) (c : Thread nD τ) none (κ₁ := κ (C c (sSnd0 h))) (κ₂ := κ (C (nxt c) (sRcv0 h)))
    (r₁ := 0) (r₂ := 0) (d₁ := 0) (d₂ := 0) (fs := (gath xs : Vec F S32x512x1024 .bf16)) (fd := f) d1 d2
    (2 + h.val) 0 N0 (N0_amount (rowIx c h.val) (semAt cc0_scratch1 h)) a1 a2 (owed l c) (owed_cons (dRcv0 h) l c) (W := W) p1 p2 hr

/-- One hop. -/
theorem ag_hop (c : Dev nD) (h : Fin 31) (l : List Due) (hl : ∀ x ∈ l, 2 + h.val < x.i ∧ x.i < NL) (W : Waits sig ℕ) {Q : PUnit → sProp 𝕄}
    (k : Prog (TpuEff nD τ sig (Elt F) Λ₀ .tc) PUnit) :
    iprop(recs xs P κ σ ∗ agRes c h ∗ oPt c (rowIx c h.val) (gath xs) ∗ owes (c : Thread nD τ) (owed (dRcv0 h :: l) c) W)
      ⊢ iprop(((agDone xs c h ∗ oPt c (rowIx c (h.val + 1)) (gath xs) ∗ ∃ W', owes (c : Thread nD τ) (owed l c) W')
            -∗ wp frame (wpE (defs₀ (F := F)) 𝒱₀ (c : Thread nD τ) none) Set.univ k Q)
          -∗ wp frame (wpE (defs₀ (F := F)) 𝒱₀ (c : Thread nD τ) none) Set.univ
              (agHop (F := F) oM (Memref.isWhole_whole _) cc0_scratch0 cc0_scratch1 c h k) Q) := by
  unfold agHop agRes
  iintro ⟨#HR, ⟨HatS, #HrS, HatV, HtS, HtV, #HrV, ⟨%f, Hd⟩, Hc⟩, Hs, HO⟩ Hk
  iapply (ag_send xs P κ c _ (k0_dev2_nxt c) h _ (agRow_eq oM c h) f l W) $$ [Hs Hd HO HtS HtV]
  · isplitr; · iapply (recs_snd0 xs P κ σ c h); iexact HR
    isplitr; · iapply (recs_rcv0 xs P κ σ (nxt c) h); iexact HR
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  iapply (wait_close xs P κ σ c (sSnd0 h) N0 (by intro K; rw [← N0_o (rowIx c h.val), ← agRow_eq oM c h]; exact wpE_waitDma2_eq 𝒱₀ (c : Thread nD τ) none Set.univ K)
    (by rw [kd_snd0, pay_snd0]) (by rw [kd_snd0]; rfl) (by rw [kd_snd0]; rfl) (by rw [kd_snd0]; exact Kd.noConfusion) 0 (by decide)
    (l := l) (fun x hx => ⟨by have := hl x hx; omega, (hl x hx).2⟩)) $$ [HcS HO HatS]
  · isplitr; · iexact HR
    isplitr; · iapply (recs_snd0 xs P κ σ c h); iexact HR
    isplitl [HcS]; · iexact HcS
    isplitl [HO]; · iexact HO
    iexact HatS
  iintro ⟨⟨%W1, HO⟩, HzS, Hs⟩
  iapply (wait_close xs P κ σ c (sRcv0 h) N0 (by intro K; rw [← N0_o (rowIx c h.val), ← agRow_eq oM c h]; exact wpE_waitDma2_eq 𝒱₀ (c : Thread nD τ) none Set.univ K)
    (by rw [kd_rcv0, pay_rcv0]) (by rw [kd_rcv0]; rfl) (by rw [kd_rcv0]; rfl) (by rw [kd_rcv0]; exact Kd.noConfusion) (2 + h.val) (by have := h.isLt; show 2 + h.val < 112; omega)
    (l := l) hl) $$ [Hc HO HatV]
  · isplitr; · iexact HR
    isplitr; · iapply (recs_rcv0 xs P κ σ c h); iexact HR
    isplitl [Hc]; · iexact Hc
    isplitl [HO]; · iexact HO
    iexact HatV
  iintro ⟨HO, HzV, Hv⟩
  iapply Hk
  isplitl [HzS HzV Hs]
  · unfold agDone
    isplitl [HzS HzV]
    · isplitl [HzS]; · iexact HzS
      iexact HzV
    iexact Hs
  isplitl [Hv]; · iexact Hv
  iexact HO

/-- The last `n` hops. -/
theorem ag_hops (c : Dev nD) (Q : PUnit → sProp 𝕄) : ∀ (n : ℕ) (hn : n ≤ 31) (W : Waits sig ℕ),
    iprop(recs xs P κ σ ∗ lst (agRes c) n ∗ oPt c (rowIx c (31 - n)) (gath xs) ∗ owes (c : Thread nD τ) (owed (agDue n) c) W)
      ⊢ iprop(((lst (agDone xs c) n ∗ oPt c (rowIx c 31) (gath xs) ∗ ∃ W', owes (c : Thread nD τ) (owed rsAll c) W') -∗ Q ⟨⟩)
          -∗ wp frame (wpE (defs₀ (F := F)) 𝒱₀ (c : Thread nD τ) none) Set.univ
              (agHops (F := F) oM (Memref.isWhole_whole _) cc0_scratch0 cc0_scratch1 c n hn) Q)
  | 0, hn, W => by
    unfold agHops agDue lst
    iintro ⟨-, -, Ho, HO⟩ Hk
    rw [wp_ret]; imodintro
    iapply Hk
    isplitr; · iempintro
    isplitl [Ho]; · iexact Ho
    iexists W; iexact HO
  | n + 1, hn, W => by
    unfold agHops agDue lst
    iintro ⟨#HR, ⟨Hr, Hrs⟩, Ho, HO⟩ Hk
    iapply (ag_hop xs P κ σ c (hop n) (agDue n) (fun x hx => by
        have := agDue_above n (by omega) x hx; show 2 + (31 - (n + 1)) < x.i ∧ x.i < NL; omega) W _) $$ [Hr Ho HO]
    · isplitr; · iexact HR
      isplitl [Hr]; · iexact Hr
      isplitl [Ho]; · iexact Ho
      iexact HO
    iintro ⟨Hd, Ho, ⟨%W', HO⟩⟩
    rw [show (hop n).val + 1 = 31 - n from by show 31 - (n + 1) + 1 = 31 - n; omega]
    have hn' : n ≤ 31 := by omega
    iapply (ag_hops c Q n hn' W') $$ [Hrs Ho HO]
    · isplitr; · iexact HR
      isplitl [Hrs]; · iexact Hrs
      isplitl [Ho]; · iexact Ho
      iexact HO
    iintro ⟨Hds, Ho, HO⟩
    iapply Hk
    isplitl [Hd Hds]
    · isplitl [Hd]; · iexact Hd
      iexact Hds
    isplitl [Ho]; · iexact Ho
    iexact HO

/-! ## The body -/

/-- What the all-gather holds of one hop when it starts, -/
def agTok (c : Dev nD) (h : Fin 31) : sProp 𝕄 :=
  iprop(atPos ER (C c (sSnd0 h)) 0 ∅ 0 ∗ reached ER (C c (sSnd0 h)) 0 ∗ atPos ER (C c (sRcv0 h)) 0 ∅ 0
    ∗ dutyTok ER (C c (sSnd0 h)) 0 0 ∗ dutyTok ER (C (nxt c) (sRcv0 h)) 0 0 ∗ cred (tallyAt (C c (sRcv0 h)) (2 + h.val) N0))
/-- of all, -/
def agIn (c : Dev nD) : sProp 𝕄 :=
  iprop(atPos ER (C c sBar0) 0 ∅ 0 ∗ cred (tallyAt (C c sBar0) 1 2) ∗ dutyTok ER (C (prv c) sBar0) 0 0 ∗ dutyTok ER (C (nxt c) sBar0) 0 1
    ∗ (bigSep Finset.univ fun h : Fin 31 => reached ER (C c (sRcv0 h)) 0) ∗ bigSep Finset.univ fun h : Fin 31 => agTok (F := F) c h)
/-- and what it holds when it ends: all its semaphores at zero. -/
def agOut (c : Dev nD) : sProp 𝕄 :=
  iprop(semVal (C c sBar0) 0 ∗ bigSep Finset.univ fun h : Fin 31 => iprop(semVal (C c (sSnd0 h)) 0 ∗ semVal (C c (sRcv0 h)) 0))

theorem pay_bar0_zero (c : Dev nD) (r : ℕ) : pay xs P c .bar0 r 0 = bar0Pay c := by unfold pay; rfl
theorem pay_bar0_one (c : Dev nD) (r : ℕ) : pay xs P c .bar0 r 1 = iprop(emp) := by unfold pay; rfl

omit [FloatOps F] in
theorem ag_gather (c : Dev nD) :
    iprop((bigSep Finset.univ fun h : Fin 31 => agTok (F := F) c h) ∗ bar0Pay c) ⊢ lst (agRes (F := F) c) 31 := by
  rw [lst_eq]
  unfold bar0Pay
  rw [← sep_split, ← sep_split]
  refine sep_each _ fun h => ?_
  unfold agTok agRes
  iintro ⟨⟨H1, H2, H3, H4, H5, H6⟩, H7, H8⟩
  isplitl [H1]; · iexact H1
  isplitl [H2]; · iexact H2
  isplitl [H3]; · iexact H3
  isplitl [H4]; · iexact H4
  isplitl [H5]; · iexact H5
  isplitl [H8]; · iexact H8
  isplitl [H7]; · iexact H7
  iexact H6

theorem ag_collect (c : Dev nD) :
    iprop(lst (agDone xs c) 31 ∗ oPt c (rowIx c 31) (gath xs))
      ⊢ iprop((bigSep Finset.univ fun h : Fin 31 => iprop(semVal (C c (sSnd0 h)) 0 ∗ semVal (C c (sRcv0 h)) 0))
        ∗ (oM.view.loc (c : Thread nD τ) ↦[Finset.univ]{fullShare} (gath xs : Vec F S32x512x1024 .bf16))) := by
  rw [lst_eq]
  unfold agDone
  rw [sep_split]
  iintro ⟨⟨H1, H2⟩, H3⟩
  isplitl [H1]; · iexact H1
  iapply (out_rows c c (gath xs)).2
  isplitl [H3]; · iexact H3
  iexact H2

/-- A device stores its own row. -/
theorem own_store (c : Dev nD) (off : Fin 3 → Nat) (ho : off = ![c.val, 0, 0]) (inb : ∀ a, off a + S1x512x1024.size a ≤ S32x512x1024.size a)
    {hl : oM.view.LoadsAt (Rect.unit (s := S32x512x1024) off S1x512x1024.size inb).toLoadRect}
    {hx : (oM.access (Rect.unit (s := S32x512x1024) off S1x512x1024.size inb)).Stores Finset.univ}
    {hm : (Finset.univ : Finset S1x512x1024.Idx) = Finset.univ ∨ ∀ a, (Rect.unit (s := S32x512x1024) off S1x512x1024.size inb).stride a = 1}
    {α : Type} {Q : α → sProp 𝕄} {k : Prog (TpuEff nD τ sig (Elt F) Λ₀ .tc) α} (f : Vec F S32x512x1024 .bf16) (r : Fin 32) (hr : r = rowIx c 0) (v : Vec F S512x1024 .bf16) (hv : v = xs c) :
    oPt c r f
      ⊢ iprop((oPt c (rowIx c 0) (gath xs) -∗ wp frame (wpE (defs₀ (F := F)) 𝒱₀ (c : Thread nD τ) none) Set.univ k Q)
          -∗ wp frame (wpE (defs₀ (F := F)) 𝒱₀ (c : Thread nD τ) none) Set.univ
            (.op (.load oM (Rect.unit (s := S32x512x1024) off S1x512x1024.size inb).toLoadRect hl) fun _ =>
              .op (.store oM (Rect.unit (s := S32x512x1024) off S1x512x1024.size inb) (k0_pay1 v) Finset.univ hx hm) fun _ => k) Q) := by
  subst hr hv
  obtain rfl : off = ![(rowIx c 0).val, 0, 0] := ho.trans (by rw [rowIx_zero])
  have hS : (oM.access (rowR (rowIx c 0))).set ⊆ (rowM oM (rowIx c 0)).view.set := by rw [oAcc_set, oRow_set]
  rw [row_store c (rowIx c 0) f (gath xs) _ (own_row xs c _ (rowIx_zero c))]
  unfold oPt
  iintro H Hk
  iapply (wp_load_rect 𝒱₀ (c : Thread nD τ) none Set.univ (m := oM) (r := rowR (rowIx c 0)) hS) $$ H; iintro H
  iapply (wp_store 𝒱₀ (c : Thread nD τ) none Set.univ (m := oM) (r := rowR (rowIx c 0)) (Mk := Finset.univ) hS) $$ H; iintro H
  iapply Hk; iexact H

set_option maxHeartbeats 800000 in
theorem ag_body (c : Dev nD) (W : Waits sig ℕ) (f : Vec F S32x512x1024 .bf16) (Q : PUnit → sProp 𝕄) :
    iprop(recs xs P κ σ ∗ agIn c ∗ owes (c : Thread nD τ) (owed allDue c) W
        ∗ (xM.view.loc (c : Thread nD τ) ↦[Finset.univ]{fullShare} (xs c))
        ∗ (oM.view.loc (c : Thread nD τ) ↦[Finset.univ]{fullShare} f))
      ⊢ iprop(((agOut c ∗ (∃ W', owes (c : Thread nD τ) (owed rsAll c) W')
            ∗ (xM.view.loc (c : Thread nD τ) ↦[Finset.univ]{fullShare} (xs c))
            ∗ (oM.view.loc (c : Thread nD τ) ↦[Finset.univ]{fullShare} (gath xs : Vec F S32x512x1024 .bf16))) -∗ Q ⟨⟩)
        -∗ wp frame (wpE (defs₀ (F := F)) 𝒱₀ (c : Thread nD τ) none) Set.univ
            (agProg (F := F) xM (Memref.isWhole_whole _) oM (Memref.isWhole_whole _) cc0_scratch0 cc0_scratch1) Q) := by
  unfold agProg agIn agOut allDue
  simp only [semSignalWord, semWaitWord, Prog.lift, Prog.bind_op, Prog.bind_ret, Prog.pure_eq_ret, wp_deviceId]
  have hown : rowIx (prv c) 31 = rowIx c 0 := by
    have : c.val < 32 := c.isLt
    apply Fin.ext; show ((c.val + 31) % 32 + 64 - 31) % 32 = (c.val + 64 - 0) % 32; omega
  have hrows : (bigSep Finset.univ fun h : Fin 31 => oPt (F := F) c (rowIx (prv c) h.val) f) ⊢ bigSep Finset.univ fun h : Fin 31 => iprop(∃ f, oPt (F := F) c (rowIx (prv c) h.val) f) :=
    sep_each _ fun h => by iintro H; iexists f; iexact H
  iintro ⟨#HR, ⟨Hat, Hc, Ht0, Ht1, #Hrs, Htk⟩, HO, Hx, Ho⟩ Hk
  ihave Ho := (out_rows (prv c) c f).1 $$ Ho
  icases Ho with ⟨Hown, Hrows⟩
  ihave #Hb := (recs_bar0 xs P κ σ (prv c)) $$ HR
  icases Hb with ⟨#HIp, #Hrp⟩
  ihave #Hb := (recs_bar0 xs P κ σ (nxt c)) $$ HR
  icases Hb with ⟨#HIn, #Hrn⟩
  ihave #Hb := (recs_bar0 xs P κ σ c) $$ HR
  icases Hb with ⟨#HIc, -⟩
  iapply (sig_pay xs P κ c _ (prv c) (k0_dev1_prv c) (SemArray.scalar (sig.barrier 0 rfl) : Sems sig S_).sem 0 _ (by decide) (dBar0 false) rfl rfl
    (by rw [kd_bar0]; decide) (by rw [kd_bar0]; rfl) ((congrArg (fun z => pay xs P (prv c) z 0 0) kd_bar0).trans (pay_bar0_zero xs P (prv c) 0)) (dBar0 true :: agDue 31) W) $$ [HO Ht0 Hrows]
  · isplitr; · iexact HIp
    isplitl [HO]; · iexact HO
    isplitl [Ht0]; · iexact Ht0
    isplitl [Hrows]
    · unfold bar0Pay
      rw [nxt_prv]
      isplitl [Hrows]
      · iapply hrows; iexact Hrows
      · iexact Hrs
    · iexact Hrp
  iintro HO
  iapply (sig_pay xs P κ c _ (nxt c) (k0_dev2_nxt c) (SemArray.scalar (sig.barrier 0 rfl) : Sems sig S_).sem 1 _ (by decide) (dBar0 true) rfl rfl
    (by rw [kd_bar0]; decide) (by rw [kd_bar0]; rfl) ((congrArg (fun z => pay xs P (nxt c) z 0 1) kd_bar0).trans (pay_bar0_one xs P (nxt c) 0)) (agDue 31) W) $$ [HO Ht1]
  · isplitr; · iexact HIn
    isplitl [HO]; · iexact HO
    isplitl [Ht1]; · iexact Ht1
    isplitr; · iempintro
    iexact Hrn
  iintro HO
  iapply (wait_all xs P κ σ c sBar0 2 (D := {0, 1}) (Y := iprop(bar0Pay c ∗ emp)) (wpE_semWait_eq 𝒱₀ (c : Thread nD τ) none Set.univ) (by rw [kd_bar0]; rfl)
    (by rw [kd_bar0, sep_cons (by decide), bigSep_singleton, pay_bar0_zero, pay_bar0_one]) (by rw [kd_bar0]; rfl) (by rw [kd_bar0]; decide) 1 (by decide)
    (fun x hx => by have := agDue_above 31 le_rfl x hx; omega)) $$ [Hc HO Hat]
  · isplitr; · iexact HR
    isplitr; · iexact HIc
    isplitl [Hc]; · iexact Hc
    isplitl [HO]; · iexact HO
    iexact Hat
  iintro ⟨⟨%W1, HO⟩, Hz, ⟨Hb, -⟩⟩
  iapply (wp_load 𝒱₀ (c : Thread nD τ) none Set.univ (m := xM) (Finset.subset_univ _)) $$ Hx; iintro Hx
  iapply (own_store xs c _ (k0_off1_eq c) _ f _ hown _ (read_xM (xs c))) $$ Hown; iintro Hown
  iapply (ag_hops xs P κ σ c Q 31 le_rfl W1) $$ [Htk Hb Hown HO]
  · isplitr; · iexact HR
    isplitl [Htk Hb]
    · iapply (ag_gather c)
      isplitl [Htk]; · iexact Htk
      iexact Hb
    isplitl [Hown]; · iexact Hown
    iexact HO
  iintro ⟨Hd, Ho, HO⟩
  ihave Hd := (ag_collect xs c) $$ [Hd Ho]
  · isplitl [Hd]; · iexact Hd
    iexact Ho
  icases Hd with ⟨Hd, Ho⟩
  iapply Hk
  isplitl [Hz Hd]
  · isplitl [Hz]; · iexact Hz
    iexact Hd
  isplitl [HO]; · iexact HO
  isplitl [Hx]; · iexact Hx
  iexact Ho

end Cert.K
-- ==== Proof.RsBody.lean ====
/-
  The reduce-scatter's body, run once at a device of no particular number. A hop waits for a credit from the third on, sends its partial sum to the
  right, receives the left neighbour's, fetches its own block and adds, and hands a credit to the left while there is a later hop to use it.
-/
module

public import proofs.«01_k».proof.Proof.AgBody

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

variable (xs : Dev nD → Vec F S512x1024 .bf16) (P : Dev nD → Vec F S32x512x1024 .f32) (κ : GSem nD τ sig → ℕ) (σ : Dev nD × Fin 2 → ℕ)

theorem pay_snd1 (c : Dev nD) (h : Fin 31) (r d : ℕ) : pay xs P c (.snd1 h) r d = sPt c (par h.val) (two (acc P h.val c)) := by unfold pay; rfl
theorem pay_rcv1 (c : Dev nD) (h : Fin 31) (r d : ℕ) : pay xs P c (.rcv1 h) r d = vPt c (par h.val) (two (acc P h.val (prv c))) := by unfold pay; rfl
theorem pay_loc (c : Dev nD) (r d : ℕ) : pay xs P c .loc r d = locPay P c r := by unfold pay; rfl
theorem pay_cr (c : Dev nD) (r d : ℕ) : pay xs P c .cr r d = crPay c d := by unfold pay; rfl
theorem pay_bar1_zero (c : Dev nD) (r : ℕ) : pay xs P c .bar1 r 0 = bar1Pay c := by unfold pay; rfl
theorem pay_bar1_one (c : Dev nD) (r : ℕ) : pay xs P c .bar1 r 1 = reached ER (C (prv c) sCr) 0 := by unfold pay; rfl
theorem N1_amount (b : Fin 2) (s : DmaSem sig) : (slotM vM b).view.amount (.dma s) = N1 := N1_v b
theorem N1_amount_s (b : Fin 2) (s : DmaSem sig) : (slotM sM b).view.amount (.dma s) = N1 := N1_s b
theorem N1_amount_b (s : DmaSem sig) : bM.view.amount (.dma s) = N1 := N1_b

/-! ## The send -/

/-- The send, addressed to a device that equals the right neighbour. -/
theorem rs_send (c n : Dev nD) (hn : n = nxt c) (h : Fin 31)
    {hsc : (slotM vM (par h.val) : Memref sig (Dev.tc n : Thread nD τ).2.kind .vmem S512x1024 .f32).view.ref.isScScratch = false}
    {hsrc : (slotM sM (par h.val)).view.WordExact} {hdst : (slotM vM (par h.val)).view.WordExact}
    {hsem : DmaTarget.Typed .vmem (.dma (semAt cc1_scratch4 h)) (.remote (Dev.tc n : Thread nD τ) (slotM vM (par h.val) : Memref sig .tc .vmem S512x1024 .f32) (.dma (semAt cc1_scratch3 h)) hsc)}
    {α : Type} {Q : α → sProp 𝕄} {k : PUnit → Prog (TpuEff nD τ sig (Elt F) Λ₀ .tc) α} (f : Vec F S2x512x1024 .f32) (l : List Due) (W : Waits sig ℕ) :
    iprop(cellInv ER (Rd xs P) (κ (C c (sSnd1 h))) (C c (sSnd1 h)) ∗ cellInv ER (Rd xs P) (κ (C (nxt c) (sRcv1 h))) (C (nxt c) (sRcv1 h))
        ∗ sPt c (par h.val) (two (acc P h.val c)) ∗ vPt (nxt c) (par h.val) f
        ∗ owes (c : Thread nD τ) (owed (dRcv1 h :: l) c) W
        ∗ dutyTok ER (C c (sSnd1 h)) 0 0 ∗ reached ER (C c (sSnd1 h)) 0
        ∗ dutyTok ER (C (nxt c) (sRcv1 h)) 0 0 ∗ reached ER (C (nxt c) (sRcv1 h)) 0)
      ⊢ iprop(((cred (tallyAt (C c (sSnd1 h)) 0 N1) ∗ owes (c : Thread nD τ) (owed l c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM sM (par h.val)) (.remote (Dev.tc n : Thread nD τ) (slotM vM (par h.val)) (.dma (semAt cc1_scratch3 h)) hsc) (.dma (semAt cc1_scratch4 h)) hsrc hdst hsem) k) Q) := by
  subst hn
  generalize hv : (two (acc P h.val c) : Vec F S2x512x1024 .f32) = v
  have p1 : ((slotM sM (par h.val)).view.loc (c : Thread nD τ) ↦[(slotM sM (par h.val)).view.set]{fullShare} v)
      ⊢ (Rd xs P).payload (C c (sSnd1 h)) 0 0 := by
    rw [payload_C, kd_snd1, pay_snd1, hv]; exact BI.Entails.refl _
  have hr : (slotM sM (par h.val)).view.read (Elt F) v = (slotM vM (par h.val)).view.read (Elt F) v := by rw [← hv, read_sSlot, read_vSlot]
  have p2 : ((slotM vM (par h.val)).view.loc (nxt c : Thread nD τ) ↦[(slotM vM (par h.val)).view.set]{fullShare}
      ((slotM vM (par h.val)).view.write (Elt F) f ((slotM sM (par h.val)).view.read (Elt F) v) Finset.univ))
      ⊢ (Rd xs P).payload (C (nxt c) (sRcv1 h)) 0 0 := by
    rw [payload_C, kd_rcv1, pay_rcv1, prv_nxt, hv]
    exact Entails.of_eq (pointsTo_congr (write_eq (slotM vM (par h.val)) f v _ hr))
  have d1 : 0 ∈ (Rd xs P).duties (C c (sSnd1 h)) 0 := by rw [duties_C, kd_snd1]; exact Finset.mem_singleton_self _
  have d2 : 0 ∈ (Rd xs P).duties (C (nxt c) (sRcv1 h)) 0 := by rw [duties_C, kd_rcv1]; exact Finset.mem_singleton_self _
  have a1 : (Rd xs P).amount (C c (sSnd1 h)) 0 0 = N1 := by rw [amount_C, kd_snd1]; rfl
  have a2 : (Rd xs P).amount (C (nxt c) (sRcv1 h)) 0 0 = N1 := by rw [amount_C, kd_rcv1]; rfl
  have hr : τ.routes (c : Thread nD τ) (nxt c : Thread nD τ) = true := by routes
  unfold sPt vPt
  refine Rounds.wp_send_pointsTo (Es := Set.univ) (defs := defs₀ (F := F)) (Q := Q) (k := k) (hsc := hsc) (hsrc := hsrc) (hdst := hdst) (hsem := hsem) 𝒱₀ ER (Rd xs P) (c : Thread nD τ) none (κ₁ := κ (C c (sSnd1 h))) (κ₂ := κ (C (nxt c) (sRcv1 h)))
    (r₁ := 0) (r₂ := 0) (d₁ := 0) (d₂ := 0) (fs := v) (fd := f) d1 d2
    (50 + 2 * h.val) 0 N1 (N1_amount (par h.val) (semAt cc1_scratch4 h)) a1 a2 (owed l c) (owed_cons (dRcv1 h) l c) (W := W) p1 p2 hr

/-! ## The fetches -/

/-- The partial sums are one row and the rest. -/
theorem p_split (c : Dev nD) (r : Fin 32) :
    (pM.view.loc (c : Thread nD τ) ↦[Finset.univ]{fullShare} (P c) : sProp 𝕄)
      ⊣⊢ iprop(pPt c r (P c) ∗ (pM.view.loc (c : Thread nD τ) ↦[Finset.univ \ (rowM pM r).view.set]{fullShare} (P c))) := by
  unfold pPt
  exact pointsTo_split_subset (Finset.subset_univ _)

/-- A wait for one fetch. -/
theorem wait_loc (c : Dev nD) (r : ℕ) (hr : r < 32) {w : TpuEff nD τ sig (Elt F) Λ₀ .tc PUnit} {α : Type} {Q : α → sProp 𝕄}
    {k : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ sLoc N1 K)
    {l : List Due} (hl : ∀ x ∈ l, 0 < x.i ∧ x.i < NL) {W : Waits sig ℕ} :
    iprop(recs xs P κ σ ∗ cred (tallyAt (C c sLoc) 0 N1) ∗ owes (c : Thread nD τ) (owed l c) W ∗ atPos ER (C c sLoc) r ∅ 0)
      ⊢ iprop((((∃ W', owes (c : Thread nD τ) (owed l c) W') ∗ atPos ER (C c sLoc) (r + 1) ∅ 0 ∗ reached ER (C c sLoc) (r + 1) ∗ locPay P c r)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hd : dut .loc r = {0} := if_pos hr
  iintro ⟨#HR, Hc, HO, Hat⟩ Hk
  iapply (Rounds.wp_wait_rest_token 𝒱₀ ER (Rd xs P) (c : Thread nD τ) none (κ := κ (C c sLoc)) hw (Set.mem_univ _) 0
      (O := owed l c) (W := W) (R := r) (m := 0) (T := ∅)
      (by rw [Nat.zero_add, expect_C, kd_loc, hd, Finset.card_singleton, Nat.one_mul]; rfl)) $$ [Hc HO Hat]
  · isplitr; · iapply (recs_loc xs P κ σ c); iexact HR
    isplitl [Hc]; · iexact Hc
    isplitl [HO]; · iexact HO
    isplitr
    · iapply (recs_may xs P κ σ c sLoc 0 (by decide) hl); iexact HR
    iexact Hat
  iintro ⟨HO, Hat, Hr, Hpay⟩
  have e : (bigSep ((Rd xs P).duties (C c sLoc) r \ ∅) fun d => (Rd xs P).payload (C c sLoc) r d) = locPay P c r := by
    rw [Finset.sdiff_empty, duties_C, kd_loc, hd, bigSep_singleton, payload_C, kd_loc, pay_loc]
  ihave Hp := (Entails.of_eq e) $$ Hpay
  iapply Hk
  isplitl [HO]; · iexists _; iexact HO
  isplitl [Hat]; · iexact Hat
  isplitl [Hr]; · iexact Hr
  iexact Hp

/-- A fetch, from a view that equals the row, into a view that holds what it reads. -/
theorem loc_copy (c : Dev nD) (r : ℕ) (hr : r < 32) (R : Fin 32) (M : Memref sig .tc .hbm S512x1024 .f32) (hM : M = rowM pM R)
    {sp : Space} (D : Memref sig .tc sp S512x1024 .f32) (hN : D.view.amount sLoc = N1) (g : D.view.ty.Contents (Elt F)) (hg : D.view.read (Elt F) g = blk (P c) R)
    (hpay : locPay P c r = iprop((D.view.loc (c : Thread nD τ) ↦[D.view.set]{fullShare} g) ∗ pPt c R (P c)))
    {hsrc : M.view.WordExact} {hdst : D.view.WordExact} {hsem : DmaTarget.Typed .hbm sLoc (DmaTarget.here (nD := nD) (p := (Proc.tc : Proc τ)) D)}
    {α : Type} {Q : α → sProp 𝕄} {k : PUnit → Prog (TpuEff nD τ sig (Elt F) Λ₀ .tc) α} (f : D.view.ty.Contents (Elt F)) :
    iprop(recs xs P κ σ ∗ pPt c R (P c) ∗ (D.view.loc (c : Thread nD τ) ↦[D.view.set]{fullShare} f) ∗ dutyTok ER (C c sLoc) r 0 ∗ reached ER (C c sLoc) r)
      ⊢ iprop((cred (tallyAt (C c sLoc) 0 N1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma M (.here D) sLoc hsrc hdst hsem) k) Q) := by
  subst hM
  have hp : iprop((D.view.loc (c : Thread nD τ) ↦[D.view.set]{fullShare} (D.view.write (Elt F) f ((rowM pM R).view.read (Elt F) (P c)) Finset.univ))
      ∗ ((rowM pM R).view.loc (c : Thread nD τ) ↦[(rowM pM R).view.set]{fullShare} (P c))) ⊢ (Rd xs P).payload (C c sLoc) r 0 := by
    rw [payload_C, kd_loc, pay_loc, hpay, pointsTo_congr (write_eq D f g ((rowM pM R).view.read (Elt F) (P c)) (by rw [hg, read_pRow]))]
    unfold pPt; exact BI.Entails.refl _
  have hd : 0 ∈ (Rd xs P).duties (C c sLoc) r := by rw [duties_C, kd_loc, show dut .loc r = {0} from if_pos hr]; exact Finset.mem_singleton_self _
  have ha : (Rd xs P).amount (C c sLoc) r 0 = N1 := by rw [amount_C, kd_loc]; rfl
  have key := Rounds.wp_copy_pointsTo (Es := Set.univ) (defs := defs₀ (F := F)) (Q := Q) (k := k) (hsrc := hsrc) (hdst := hdst) (hsem := hsem) (Γ := PendingWaitsCtx.empty)
    𝒱₀ ER (Rd xs P) (c : Thread nD τ) none (κ := κ (C c sLoc)) (fs := P c) (fd := f) (q := fullShare) hd 0 N1 hN ha hp
  unfold pPt
  iintro ⟨#HR, H⟩
  iapply key
  isplitr; · iapply (recs_loc xs P κ σ c); iexact HR
  iexact H

/-! ## One hop -/

/-- What a hop starts from: its semaphores' tokens, the credit for the sum to come, the token of its fetch and of its turn at the right neighbour's slot. -/
def rsRes (c : Dev nD) (h : Fin 31) : sProp 𝕄 :=
  iprop(atPos ER (C c (sSnd1 h)) 0 ∅ 0 ∗ reached ER (C c (sSnd1 h)) 0 ∗ atPos ER (C c (sRcv1 h)) 0 ∅ 0
    ∗ dutyTok ER (C c (sSnd1 h)) 0 0 ∗ dutyTok ER (C (nxt c) (sRcv1 h)) 0 0 ∗ reached ER (C (nxt c) (sRcv1 h)) 0
    ∗ cred (tallyAt (C c (sRcv1 h)) (50 + 2 * h.val) N1) ∗ dutyTok ER (C c sLoc) (h.val + 1) 0 ∗ writeTok ES (nxt c, par h.val) (h.val / 2 + 1))
/-- What it leaves of that. -/
def rsDone (c : Dev nD) (h : Fin 31) : sProp 𝕄 :=
  iprop(semVal (C c (sSnd1 h)) 0 ∗ semVal (C c (sRcv1 h)) 0)
/-- The partial sums. -/
def pAll (c : Dev nD) : sProp 𝕄 := pM.view.loc (c : Thread nD τ) ↦[Finset.univ]{fullShare} (P c)

omit [FloatOps F] in
theorem vSlot_load (b : Fin 2) : vM.view.setOn (slotR b).toLoadRect.set ⊆ (slotM vM b).view.set := by
  have h := vAcc_set b
  rw [vSlot_set, ← h, View.set_slice]; exact Finset.Subset.refl _

theorem loc_pay (c : Dev nD) (h : ℕ) :
    locPay P c (h + 1) = iprop((bM.view.loc (c : Thread nD τ) ↦[bM.view.set]{fullShare} (blk (P c) (rowIx c (h + 2)))) ∗ pPt c (rowIx c (h + 2)) (P c)) := rfl

theorem rs_core (c : Dev nD) (h : Fin 31) (l : List Due) (hl : ∀ x ∈ l, 50 + 2 * h.val < x.i ∧ x.i < NL) (W : Waits sig ℕ) {Q : PUnit → sProp 𝕄}
    (k : Vec F S1x512x1024 .f32 → Vec F S512x1024 .f32 → Prog (TpuEff nD τ sig (Elt F) Λ₀ .tc) PUnit) (f : Vec F S512x1024 .f32) :
    iprop(recs xs P κ σ ∗ rsRes c h ∗ released ES (nxt c, par h.val) (h.val / 2 + 1) ∗ sPt c (par h.val) (two (acc P h.val c)) ∗ bPt c f
        ∗ pAll P c ∗ atPos ER (C c sLoc) (h.val + 1) ∅ 0 ∗ reached ER (C c sLoc) (h.val + 1) ∗ owes (c : Thread nD τ) (owed (dRcv1 h :: l) c) W)
      ⊢ iprop(((rsDone c h ∗ sPt c (par h.val) (two (acc P h.val c)) ∗ vPt c (par h.val) (two (acc P h.val (prv c))) ∗ bPt c (blk (P c) (rowIx c (h.val + 2)))
            ∗ pAll P c ∗ atPos ER (C c sLoc) (h.val + 1 + 1) ∅ 0 ∗ reached ER (C c sLoc) (h.val + 1 + 1) ∗ ∃ W', owes (c : Thread nD τ) (owed l c) W')
            -∗ wp frame (wpE (defs₀ (F := F)) 𝒱₀ (c : Thread nD τ) none) Set.univ
              (k (vM.view.readAt (Elt F) (slotR (par h.val)).toLoadRect (two (acc P h.val (prv c)))) (bM.view.readAt (Elt F) fullR.toLoadRect (blk (P c) (rowIx c (h.val + 2))))) Q)
          -∗ wp frame (wpE (defs₀ (F := F)) 𝒱₀ (c : Thread nD τ) none) Set.univ
              (rsCore (F := F) pM sM vM bM (Memref.isWhole_whole _) cc1_scratch3 cc1_scratch4 cc1_scratch5 c h k) Q) := by
  have hh := h.isLt
  have hl0 : ∀ x ∈ l, 0 < x.i ∧ x.i < NL := fun x hx => ⟨by have := hl x hx; omega, (hl x hx).2⟩
  unfold rsCore rsRes
  iintro ⟨#HR, ⟨HatS, #HrS, HatV, HtS, HtV, #HrV, Hc, HtL, Hw⟩, #Hrel, Hs, Hb, HP, HatL, #HrL, HO⟩ Hk
  ihave #Hsl := (recs_slot xs P κ σ (nxt c, par h.val)) $$ HR
  imod (slot_take ES (Set.mem_univ (σ (nxt c, par h.val))) (h.val / 2 + 1)) $$ [Hw] with Hv
  · isplitr; · iexact Hsl
    isplitr; · iexact Hrel
    iexact Hw
  unfold vSl
  icases Hv with ⟨%g, Hv⟩
  iapply (rs_send xs P κ c _ (k1_dev2_nxt c) h g l W) $$ [Hs Hv HO HtS HtV]
  · isplitr; · iapply (recs_snd1 xs P κ σ c h); iexact HR
    isplitr; · iapply (recs_rcv1 xs P κ σ (nxt c) h); iexact HR
    isplitl [Hs]; · iexact Hs
    isplitl [Hv]; · iexact Hv
    isplitl [HO]; · iexact HO
    isplitl [HtS]; · iexact HtS
    isplitr; · iexact HrS
    isplitl [HtV]; · iexact HtV
    iexact HrV
  iintro ⟨HcS, HO⟩
  iapply (wait_close xs P κ σ c (sSnd1 h) N1 (by intro K; rw [← N1_s (par h.val)]; exact wpE_waitDma2_eq 𝒱₀ (c : Thread nD τ) none Set.univ K)
    (by rw [kd_snd1, pay_snd1]) (by rw [kd_snd1]; rfl) (by rw [kd_snd1]; rfl) (by rw [kd_snd1]; exact Kd.noConfusion) 0 (by decide)
    (l := l) hl0) $$ [HcS HO HatS]
  · isplitr; · iexact HR
    isplitr; · iapply (recs_snd1 xs P κ σ c h); iexact HR
    isplitl [HcS]; · iexact HcS
    isplitl [HO]; · iexact HO
    iexact HatS
  iintro ⟨⟨%W1, HO⟩, HzS, Hs⟩
  iapply (wait_close xs P κ σ c (sRcv1 h) N1 (by intro K; rw [← N1_v (par h.val)]; exact wpE_waitDma2_eq 𝒱₀ (c : Thread nD τ) none Set.univ K)
    (by rw [kd_rcv1, pay_rcv1]) (by rw [kd_rcv1]; rfl) (by rw [kd_rcv1]; rfl) (by rw [kd_rcv1]; exact Kd.noConfusion) (50 + 2 * h.val) (by show 50 + 2 * h.val < 112; omega)
    (l := l) hl) $$ [Hc HO HatV]
  · isplitr; · iexact HR
    isplitr; · iapply (recs_rcv1 xs P κ σ c h); iexact HR
    isplitl [Hc]; · iexact Hc
    isplitl [HO]; · iexact HO
    iexact HatV
  iintro ⟨⟨%W2, HO⟩, HzV, Hv⟩
  unfold pAll
  ihave HP := (p_split P c (rowIx c (h.val + 2))).1 $$ HP
  icases HP with ⟨Hrow, Hrest⟩
  iapply (loc_copy xs P κ σ c (h.val + 1) (by omega) (rowIx c (h.val + 2)) _ (pRow_eq pM c h) bM (N1_amount_b _) (blk (P c) (rowIx c (h.val + 2))) rfl (loc_pay P c h.val) f) $$ [Hrow Hb HtL]
  · isplitr; · iexact HR
    isplitl [Hrow]; · iexact Hrow
    isplitl [Hb]; · unfold bPt; iexact Hb
    isplitl [HtL]; · iexact HtL
    iexact HrL
  iintro HcL
  iapply (wait_loc xs P κ σ c (h.val + 1) (by omega) (by intro K; rw [← N1_b]; exact wpE_waitDma2_eq 𝒱₀ (c : Thread nD τ) none Set.univ K) (l := l) hl0) $$ [HcL HO HatL]
  · isplitr; · iexact HR
    isplitl [HcL]; · iexact HcL
    isplitl [HO]; · iexact HO
    iexact HatL
  iintro ⟨HO, HatL, #HrL', Hp⟩
  ihave Hp := (Entails.of_eq (loc_pay P c h.val)) $$ Hp
  icases Hp with ⟨Hb, Hrow⟩
  ihave HP := (p_split P c (rowIx c (h.val + 2))).2 $$ [Hrow Hrest]
  · isplitl [Hrow]; · iexact Hrow
    iexact Hrest
  unfold vPt
  iapply (wp_load 𝒱₀ (c : Thread nD τ) none Set.univ (m := vM) (vSlot_load (par h.val))) $$ Hv; iintro Hv
  iapply (wp_load 𝒱₀ (c : Thread nD τ) none Set.univ (m := bM) (View.setOn_subset_set _ _)) $$ Hb; iintro Hb
  iapply Hk
  isplitl [HzS HzV]
  · unfold rsDone
    isplitl [HzS]; · iexact HzS
    iexact HzV
  isplitl [Hs]; · iexact Hs
  isplitl [Hv]; · iexact Hv
  isplitl [Hb]; · unfold bPt; iexact Hb
  isplitl [HP]; · iexact HP
  isplitl [HatL]; · iexact HatL
  isplitr; · iexact HrL'
  iexact HO

/-- The send slot for the next hop. -/
theorem rs_fill (c : Dev nD) (h : Fin 31) (v : Vec F S1x512x1024 .f32) (w : Vec F S512x1024 .f32) (f g : Vec F S2x512x1024 .f32)
    (hw : k1_pay2 v w = (sM.access (slotR (par (h.val + 1)))).read (Elt F) g) {Q : PUnit → sProp 𝕄} (k : Prog (TpuEff nD τ sig (Elt F) Λ₀ .tc) PUnit) :
    sPt c (par (h.val + 1)) f
      ⊢ iprop((sPt c (par (h.val + 1)) g -∗ wp frame (wpE (defs₀ (F := F)) 𝒱₀ (c : Thread nD τ) none) Set.univ k Q)
          -∗ wp frame (wpE (defs₀ (F := F)) 𝒱₀ (c : Thread nD τ) none) Set.univ (rsFill (F := F) sM h v w k) Q) := by
  have hS := subset_of_eq ((sAcc_set (par (h.val + 1))).trans (sSlot_set (par (h.val + 1))).symm)
  rw [slot_store c (par (h.val + 1)) f g _ hw]
  unfold sPt rsFill
  iintro H Hk
  iapply (wp_load_rect 𝒱₀ (c : Thread nD τ) none Set.univ (m := sM) (r := slotR (par (h.val + 1))) hS) $$ H; iintro H
  iapply (wp_store 𝒱₀ (c : Thread nD τ) none Set.univ (m := sM) (r := slotR (par (h.val + 1))) (Mk := Finset.univ) hS) $$ H; iintro H
  iapply Hk; iexact H

/-! ## The credits -/

/-- Where a device stands with its credits before hop `h`: it has taken one for each hop from the third on, and what those it has heard of hand over. -/
def crAt (c : Dev nD) (h : ℕ) : sProp 𝕄 :=
  iprop(∃ T : Finset ℕ, ⌜T ⊆ Finset.range 29 ∧ (h - 2) + (Finset.range 29 \ T).card ≤ 29⌝ ∗ atPos ER (C c sCr) 0 T (h - 2) ∗ bigSep T fun k => crPay (F := F) c k)
/-- What it may rely on: the first turn of both slots at the right neighbour, and that the left neighbour's credit cell is open. -/
def rsKnow (c : Dev nD) : sProp 𝕄 :=
  iprop(released ES (nxt c, (0 : Fin 2)) 1 ∗ released ES (nxt c, (1 : Fin 2)) 1 ∗ reached ER (C (prv c) sCr) 0)
/-- What it holds of the credits of hop `h`: the token of the one it gives, the credit of the one it takes. -/
def crRes (c : Dev nD) (h : Fin 31) : sProp 𝕄 :=
  iprop((if h.val ≤ 28 then dutyTok ER (C (prv c) sCr) 0 h.val else iprop(emp))
    ∗ (if 2 ≤ h.val then cred (tallyAt (C c sCr) (47 + 2 * h.val) 1) else iprop(emp)))

omit [FloatOps F] in
instance crPay_persistent (c : Dev nD) (k : ℕ) : Persistent (crPay (F := F) c k) := by unfold crPay; infer_instance
omit [FloatOps F] in
instance rsKnow_persistent (c : Dev nD) : Persistent (rsKnow (F := F) c) := by unfold rsKnow; infer_instance

theorem par_two (h : ℕ) : par (h + 2) = par h := Fin.ext (by show (h + 2) % 2 = h % 2; omega)

omit [FloatOps F] in
/-- As many credits as hops show the turn the hop needs. -/
theorem credit_turn (c : Dev nD) (h : ℕ) (hh : 2 ≤ h) (S : Finset ℕ) (hS : S ⊆ Finset.range 29) (hc : (h - 1) + (Finset.range 29 \ S).card ≤ 29) :
    (bigSep S fun k => crPay (F := F) c k) ⊢ released ES (nxt c, par h) (h / 2 + 1) := by
  obtain ⟨k, hk, hle⟩ : ∃ k ∈ S, h - 2 ≤ k := by
    by_contra hn
    have hsub : S ⊆ Finset.range (h - 2) := fun k hk => Finset.mem_range.mpr (by
      by_contra hle; exact hn ⟨k, hk, by omega⟩)
    have h1 := Finset.card_le_card hsub
    have h2 := Finset.card_sdiff_of_subset hS
    have h3 := Finset.card_le_card hS
    rw [Finset.card_range] at h1 h2 h3
    omega
  have he : (bigSep S fun k => crPay (F := F) c k) ⊢ crPay (F := F) c k := bigSep_elim hk
  refine he.trans ?_
  unfold crPay
  by_cases hp : k % 2 = h % 2
  · rw [show par k = par h from Fin.ext hp]
    iintro ⟨H, -⟩
    iapply (released_mono (E := ES) (k := (nxt c, par h)) (show h / 2 + 1 ≤ k / 2 + 2 by omega)); iexact H
  · rw [show par (k + 1) = par h from Fin.ext (by show (k + 1) % 2 = h % 2; omega)]
    iintro ⟨-, H⟩
    iapply (released_mono (E := ES) (k := (nxt c, par h)) (show h / 2 + 1 ≤ (k + 1) / 2 + 1 by omega)); iexact H

/-- The front of a hop: from the third on it takes a credit. -/
theorem rs_front (c : Dev nD) (h : Fin 31) (l : List Due) (hl : ∀ x ∈ l, 50 + 2 * h.val ≤ x.i ∧ x.i < NL) (W : Waits sig ℕ) {Q : PUnit → sProp 𝕄}
    (k : Prog (TpuEff nD τ sig (Elt F) Λ₀ .tc) PUnit) :
    iprop(recs xs P κ σ ∗ rsKnow c ∗ crAt c h.val ∗ (if 2 ≤ h.val then cred (tallyAt (C c sCr) (47 + 2 * h.val) 1) else iprop(emp)) ∗ owes (c : Thread nD τ) (owed l c) W)
      ⊢ iprop(((crAt c (h.val + 1) ∗ released ES (nxt c, par h.val) (h.val / 2 + 1) ∗ ∃ W', owes (c : Thread nD τ) (owed l c) W')
            -∗ wp frame (wpE (defs₀ (F := F)) 𝒱₀ (c : Thread nD τ) none) Set.univ k Q)
          -∗ wp frame (wpE (defs₀ (F := F)) 𝒱₀ (c : Thread nD τ) none) Set.univ
              (if 2 ≤ h.val then semWaitWord cc1_scratch6.sem 1#32 >>= fun _ => k else k) Q) := by
  have hh := h.isLt
  by_cases h2 : 2 ≤ h.val
  · rw [if_pos h2, if_pos h2]
    simp only [semWaitWord, Prog.lift, Prog.bind_op, Prog.bind_ret]
    unfold crAt
    iintro ⟨#HR, -, ⟨%T, %hT, Hat, #HT⟩, Hc, HO⟩ Hk
    iapply (Rounds.wp_wait 𝒱₀ ER (Rd xs P) (c : Thread nD τ) none (κ := κ (C c sCr)) (sm := sCr) (k' := 1) (wpE_semWait_eq 𝒱₀ (c : Thread nD τ) none Set.univ) (Set.mem_univ _)
      (cr := Finsupp.single (47 + 2 * h.val) 1) (O := owed l c) (W := W) {(sCr, 47 + 2 * h.val)} (R := 0) (m := h.val - 2) (T := T) (by simp)
      (image_single_subset sCr (47 + 2 * h.val) 1)) $$ [Hc HO Hat]
    · isplitr; · iapply (recs_cr xs P κ σ c); iexact HR
      isplitl [Hc]; · iexact Hc
      isplitl [HO]; · iexact HO
      isplitr
      · iapply (recs_may xs P κ σ c sCr (47 + 2 * h.val) (by show 47 + 2 * h.val < 112; omega) (fun x hx => by have := hl x hx; omega)); iexact HR
      iexact Hat
    iintro %S ⟨%hS, HO, Hat, Hp⟩
    obtain ⟨hTS, hSd, hcard⟩ := hS
    rw [duties_C, kd_cr] at hSd hcard
    rw [expect_C, kd_cr] at hcard
    have hb : h.val - 1 + (Finset.range 29 \ S).card ≤ 29 := by
      have e : (dut Kd.cr 0).card * amt Kd.cr = 29 := by decide
      rw [e] at hcard
      have : h.val - 2 + 1 + (Finset.range 29 \ S).card ≤ 29 := hcard
      omega
    have e : (bigSep (S \ T) fun d => (Rd xs P).payload (C c sCr) 0 d) = bigSep (S \ T) fun k => crPay (F := F) c k := by
      refine bigSep_congr fun d _ => ?_
      rw [payload_C, kd_cr, pay_cr]
    ihave Hp := (Entails.of_eq e) $$ Hp
    have hu : iprop((bigSep T fun k => crPay (F := F) c k) ∗ bigSep (S \ T) fun k => crPay (F := F) c k) ⊢ bigSep S fun k => crPay (F := F) c k :=
      Entails.of_eq (bigSep_sdiff_split hTS).symm
    ihave #HS := hu $$ [Hp]
    · isplitr; · iexact HT
      iexact Hp
    iapply Hk
    isplitl [Hat]
    · iexists S
      isplitr; · ipureintro; exact ⟨hSd, by have : h.val + 1 - 2 = h.val - 1 := by omega
                                            rw [this]; exact hb⟩
      rw [show h.val + 1 - 2 = h.val - 2 + 1 by omega]
      isplitl [Hat]; · iexact Hat
      iexact HS
    isplitr
    · iapply (credit_turn c h.val h2 S hSd hb); iexact HS
    iexists _; iexact HO
  · rw [if_neg h2, if_neg h2]
    unfold crAt rsKnow
    iintro ⟨#HR, ⟨#H0, #H1, -⟩, Hcr, -, HO⟩ Hk
    iapply Hk
    rw [show h.val + 1 - 2 = h.val - 2 by omega, show h.val / 2 + 1 = 1 by omega]
    isplitl [Hcr]; · iexact Hcr
    isplitr
    · rcases (by omega : h.val = 0 ∨ h.val = 1) with e | e
      · rw [e]; iexact H0
      · rw [e]; iexact H1
    iexists W; iexact HO

/-- The turns a device has still to give at its own receive slots, before hop `h`; and the slot it keeps. -/
def rdr (c : Dev nD) (h : ℕ) : sProp 𝕄 :=
  if h ≤ 28 then iprop(readerAt ES (c, par h) (h / 2 + 1) ∗ readerAt ES (c, par (h + 1)) ((h + 1) / 2 + 1) ∗ released ES (c, par (h + 1)) ((h + 1) / 2 + 1)) else iprop(emp)
def kept (c : Dev nD) (h : ℕ) : sProp 𝕄 := if h = 30 then vSl (F := F) (c, (1 : Fin 2)) else iprop(emp)

omit [FloatOps F] in
theorem vSl_false (k : Dev nD × Fin 2) : iprop(vSl (F := F) k ∗ vSl (F := F) k) ⊢ (False : sProp 𝕄) := by
  have hn : (slotM vM k.2).view.set.Nonempty := by
    rw [vSlot_set]; exact ⟨ix3 k.2 0 0, (mem_lead _ _).mpr rfl⟩
  exact slot_slot_false (ℓ := (slotM vM k.2).view.loc (k.1 : Thread nD τ)) (I := (slotM vM k.2).view.set) hn

/-- The end of a hop: while a later hop uses it, a credit to the left. -/
theorem rs_give (c : Dev nD) (h : Fin 31) (h9 : h.val ≤ 29) (l : List Due) (W : Waits sig ℕ) {Q : PUnit → sProp 𝕄} (g : Vec F S2x512x1024 .f32)
    (k : Prog (TpuEff nD τ sig (Elt F) Λ₀ .tc) PUnit) :
    iprop(recs xs P κ σ ∗ rsKnow c ∗ rdr c h.val ∗ vPt c (par h.val) g ∗ (if h.val ≤ 28 then dutyTok ER (C (prv c) sCr) 0 h.val else iprop(emp))
        ∗ owes (c : Thread nD τ) (owed (if h.val ≤ 28 then dCr h.val :: l else l) c) W)
      ⊢ iprop(((rdr c (h.val + 1) ∗ kept c (h.val + 1) ∗ ∃ W', owes (c : Thread nD τ) (owed l c) W')
            -∗ wp frame (wpE (defs₀ (F := F)) 𝒱₀ (c : Thread nD τ) none) Set.univ k Q)
          -∗ wp frame (wpE (defs₀ (F := F)) 𝒱₀ (c : Thread nD τ) none) Set.univ
              (if h.val ≤ 28 then semSignalWord (⟨k1_dev1 c, k1_dev1_lt c⟩ : Dev nD) cc1_scratch6.sem 1#32 >>= fun _ => k else k) Q) := by
  by_cases h8 : h.val ≤ 28
  · rw [if_pos h8, if_pos h8, if_pos h8]
    simp only [semSignalWord, Prog.lift, Prog.bind_op, Prog.bind_ret]
    unfold rsKnow
    rw [show rdr (F := F) c h.val = _ from if_pos h8]
    iintro ⟨#HR, ⟨-, -, #Hrc⟩, ⟨Hr, Hr', #Hrel⟩, Hv, Ht, HO⟩ Hk
    ihave #Hsl := (recs_slot xs P κ σ (c, par h.val)) $$ HR
    imod (slot_release ES (Set.mem_univ (σ (c, par h.val))) (vSl_false (c, par h.val)) (h.val / 2 + 1)) $$ [Hr Hv] with ⟨Hr, #Hrel'⟩
    · isplitr; · iexact Hsl
      isplitl [Hr]; · iexact Hr
      unfold vSl; iexists g; iexact Hv
    iapply (sig_pay xs P κ c _ (prv c) (k1_dev1_prv c) cc1_scratch6.sem h.val _ (by decide) (dCr h.val) rfl rfl
      (by show h.val ∈ dut (kd sCr) 0; rw [kd_cr]; exact Finset.mem_range.mpr (by omega)) (by show amt (kd sCr) = 1; rw [kd_cr]; rfl)
      ((congrArg (fun z => pay xs P (prv c) z 0 h.val) kd_cr).trans (pay_cr xs P (prv c) 0 h.val)) l W) $$ [HO Ht]
    · isplitr; · iapply (recs_cr xs P κ σ (prv c)); iexact HR
      isplitl [HO]; · iexact HO
      isplitl [Ht]; · iexact Ht
      isplitr
      · unfold crPay
        rw [nxt_prv]
        isplitr; · iexact Hrel'
        iexact Hrel
      iexact Hrc
    iintro HO
    iapply Hk
    isplitl [Hr Hr']
    · unfold rdr
      by_cases h8' : h.val + 1 ≤ 28
      · rw [if_pos h8', par_two, show (h.val + 1 + 1) / 2 + 1 = h.val / 2 + 1 + 1 by omega]
        isplitl [Hr']; · iexact Hr'
        isplitl [Hr]; · iexact Hr
        iexact Hrel'
      · rw [if_neg h8']; iempintro
    isplitr
    · unfold kept; rw [if_neg (by omega)]; iempintro
    iexists _; iexact HO
  · have e : h.val = 29 := by omega
    rw [if_neg h8, if_neg h8, if_neg h8]
    iintro ⟨-, -, -, Hv, -, HO⟩ Hk
    iapply Hk
    isplitr
    · unfold rdr; rw [if_neg (by omega)]; iempintro
    isplitl [Hv]
    · unfold kept; rw [if_pos (by omega)]; unfold vSl; iexists g
      rw [show par h.val = 1 from Fin.ext (by show h.val % 2 = 1; omega)]; iexact Hv
    iexists W; iexact HO

/-! ## All hops -/

/-- What a device holds between hops, before hop `h`. -/
def rsSt (c : Dev nD) (h : ℕ) : sProp 𝕄 :=
  iprop(crAt c h ∗ rdr c h ∗ sPt c (par h) (two (acc P h c)) ∗ (∃ f, sPt (F := F) c (par (h + 1)) f) ∗ (∃ f, bPt (F := F) c f) ∗ pAll P c
    ∗ atPos ER (C c sLoc) (h + 1) ∅ 0 ∗ reached ER (C c sLoc) (h + 1) ∗ kept c h)

theorem rs_hop (c : Dev nD) (h : Fin 31) (h9 : h.val ≤ 29) (l : List Due)
    (hl : ∀ x ∈ (if h.val ≤ 28 then dCr h.val :: l else l), 50 + 2 * h.val < x.i ∧ x.i < NL) (W : Waits sig ℕ) {Q : PUnit → sProp 𝕄}
    (k : Prog (TpuEff nD τ sig (Elt F) Λ₀ .tc) PUnit) :
    iprop(recs xs P κ σ ∗ rsKnow c ∗ rsRes c h ∗ crRes c h ∗ rsSt P c h.val
        ∗ owes (c : Thread nD τ) (owed (dRcv1 h :: if h.val ≤ 28 then dCr h.val :: l else l) c) W)
      ⊢ iprop(((rsDone c h ∗ rsSt P c (h.val + 1) ∗ ∃ W', owes (c : Thread nD τ) (owed l c) W')
            -∗ wp frame (wpE (defs₀ (F := F)) 𝒱₀ (c : Thread nD τ) none) Set.univ k Q)
          -∗ wp frame (wpE (defs₀ (F := F)) 𝒱₀ (c : Thread nD τ) none) Set.univ
              (rsHop (F := F) pM sM vM bM (Memref.isWhole_whole _) cc1_scratch3 cc1_scratch4 cc1_scratch5 cc1_scratch6 c h k) Q) := by
  have hh := h.isLt
  have hl' : ∀ x ∈ (dRcv1 h :: if h.val ≤ 28 then dCr h.val :: l else l), 50 + 2 * h.val ≤ x.i ∧ x.i < NL := fun x hx => by
    rcases List.mem_cons.mp hx with rfl | hx
    · exact ⟨le_refl _, by show 50 + 2 * h.val < 112; omega⟩
    · have := hl x hx; omega
  unfold rsHop rsSt crRes
  iintro ⟨#HR, #HK, Hres, ⟨Ht, Hc⟩, ⟨Hcr, Hrd, Hs, ⟨%f, Hs'⟩, ⟨%fb, Hb⟩, HP, HatL, #HrL, -⟩, HO⟩ Hk
  iapply (rs_front xs P κ σ c h _ hl' W _) $$ [Hcr Hc HO]
  · isplitr; · iexact HR
    isplitr; · iexact HK
    isplitl [Hcr]; · iexact Hcr
    isplitl [Hc]; · iexact Hc
    iexact HO
  iintro ⟨Hcr, #Hrel, ⟨%W1, HO⟩⟩
  iapply (rs_core xs P κ σ c h _ hl W1 _ fb) $$ [Hres Hs Hb HP HatL HO]
  · isplitr; · iexact HR
    isplitl [Hres]; · iexact Hres
    isplitr; · iexact Hrel
    isplitl [Hs]; · iexact Hs
    isplitl [Hb]; · iexact Hb
    isplitl [HP]; · iexact HP
    isplitl [HatL]; · iexact HatL
    isplitr; · iexact HrL
    iexact HO
  iintro ⟨Hd, Hs, Hv, Hb, HP, HatL, #HrL', ⟨%W2, HO⟩⟩
  iapply (rs_fill c h _ _ f (two (acc P (h.val + 1) c)) (by rw [read_bM]; exact fill_slot _ _ _ _) _) $$ Hs'
  iintro Hs'
  iapply (rs_give xs P κ σ c h h9 l W2 _ k) $$ [Hrd Hv Ht HO]
  · isplitr; · iexact HR
    isplitr; · iexact HK
    isplitl [Hrd]; · iexact Hrd
    isplitl [Hv]; · iexact Hv
    isplitl [Ht]; · iexact Ht
    iexact HO
  iintro ⟨Hrd, Hkp, HO⟩
  iapply Hk
  isplitl [Hd]; · iexact Hd
  isplitr [HO]
  · isplitl [Hcr]; · iexact Hcr
    isplitl [Hrd]; · iexact Hrd
    isplitl [Hs']; · iexact Hs'
    isplitl [Hs]
    · rw [par_two]; iexists _; iexact Hs
    isplitl [Hb]; · iexists _; iexact Hb
    isplitl [HP]; · iexact HP
    isplitl [HatL]; · iexact HatL
    isplitr; · iexact HrL'
    iexact Hkp
  iexact HO

/-- What a device holds when all is summed. -/
def rsEnd (c : Dev nD) : sProp 𝕄 :=
  iprop(semVal (C c sLoc) 0 ∗ semVal (C c sCr) 0 ∗ ((∃ f, sPt (F := F) c 0 f) ∗ ∃ f, sPt (F := F) c 1 f) ∗ (vSl (F := F) (c, (0 : Fin 2)) ∗ vSl (F := F) (c, (1 : Fin 2)))
    ∗ (∃ f, bPt (F := F) c f) ∗ pAll P c ∗ (rM.view.loc (c : Thread nD τ) ↦[Finset.univ]{fullShare} (acc P 31 c)) ∗ ∃ W', owes (c : Thread nD τ) (owed [] c) W')

omit [FloatOps F] in
theorem s_some (c : Dev nD) (b b' : Fin 2) (f : Vec F S2x512x1024 .f32) (e : b = b') : sPt c b f ⊢ iprop(∃ f, sPt (F := F) c b' f) := by
  subst e; iintro H; iexists f; iexact H
omit [FloatOps F] in
theorem v_some (c : Dev nD) (b b' : Fin 2) (f : Vec F S2x512x1024 .f32) (e : b = b') : vPt c b f ⊢ vSl (F := F) (c, b') := by
  subst e; unfold vSl; iintro H; iexists f; iexact H

/-- The last sum. -/
theorem last_sum (c : Dev nD) (b : Fin 2) (fr : Vec F S512x1024 .f32) (h : ℕ) :
    (rM.access fullR).write (Elt F) fr (k1_pay1 (vM.view.readAt (Elt F) (slotR b).toLoadRect (two (acc P h (prv c)))) (bM.view.readAt (Elt F) fullR.toLoadRect (blk (P c) (rowIx c (h + 2))))) Finset.univ
      = acc P (h + 1) c := by
  rw [write_rM, read_bM, sum_slot]; rfl

/-- The last hop: the last credit, and the sum to the result. -/
theorem rs_last (c : Dev nD) (W : Waits sig ℕ) {Q : PUnit → sProp 𝕄} (fr : Vec F S512x1024 .f32) :
    iprop(recs xs P κ σ ∗ rsRes c ⟨30, by omega⟩ ∗ cred (tallyAt (C c sCr) 107 1) ∗ rsSt P c 30 ∗ (rM.view.loc (c : Thread nD τ) ↦[Finset.univ]{fullShare} fr)
        ∗ owes (c : Thread nD τ) (owed [dRcv1 ⟨30, by omega⟩] c) W)
      ⊢ iprop(((rsDone c ⟨30, by omega⟩ ∗ rsEnd P c) -∗ Q ⟨⟩)
          -∗ wp frame (wpE (defs₀ (F := F)) 𝒱₀ (c : Thread nD τ) none) Set.univ
              (semWaitWord cc1_scratch6.sem 1#32 >>= fun _ => rsCore (F := F) pM sM vM bM (Memref.isWhole_whole _) cc1_scratch3 cc1_scratch4 cc1_scratch5 c ⟨30, by omega⟩ fun v w => rsLast rM v w) Q) := by
  simp only [semWaitWord, Prog.lift, Prog.bind_op, Prog.bind_ret]
  unfold rsSt crAt
  iintro ⟨#HR, Hres, Hc, ⟨⟨%T, %hT, Hat, #HT⟩, -, Hs, Hs', ⟨%fb, Hb⟩, HP, HatL, #HrL, Hkp⟩, Hr, HO⟩ Hk
  iapply (Rounds.wp_wait_rest_token 𝒱₀ ER (Rd xs P) (c : Thread nD τ) none (κ := κ (C c sCr)) (sm := sCr) (k' := 1) (wpE_semWait_eq 𝒱₀ (c : Thread nD τ) none Set.univ) (Set.mem_univ _) 107
      (O := owed [dRcv1 ⟨30, by omega⟩] c) (W := W) (R := 0) (m := 30 - 2) (T := T) (by rw [expect_C, kd_cr]; decide)) $$ [Hc HO Hat]
  · isplitr; · iapply (recs_cr xs P κ σ c); iexact HR
    isplitl [Hc]; · iexact Hc
    isplitl [HO]; · iexact HO
    isplitr
    · iapply (recs_may xs P κ σ c sCr 107 (by decide) (fun x hx => by obtain rfl := List.mem_singleton.mp hx; show 107 < 110 ∧ 110 < 112; decide)); iexact HR
    iexact Hat
  iintro ⟨HO, Hat, -, Hp⟩
  imod (Rounds.cell_close ER (Rd xs P) (Set.mem_univ (κ (C c sCr))) (fun h => h) (R := 0 + 1) (fun r hr => duties_end xs P c (by rw [kd_cr]; exact Kd.noConfusion) r hr)) $$ [Hat] with Hz
  · isplitr; · iapply (recs_cr xs P κ σ c); iexact HR
    iexact Hat
  have e : (bigSep ((Rd xs P).duties (C c sCr) 0 \ T) fun d => (Rd xs P).payload (C c sCr) 0 d) = bigSep (Finset.range 29 \ T) fun k => crPay (F := F) c k := by
    rw [duties_C, kd_cr]
    refine bigSep_congr fun d _ => ?_
    rw [payload_C, kd_cr, pay_cr]
  ihave Hp := (Entails.of_eq e) $$ Hp
  have hu : iprop((bigSep T fun k => crPay (F := F) c k) ∗ bigSep (Finset.range 29 \ T) fun k => crPay (F := F) c k) ⊢ bigSep (Finset.range 29) fun k => crPay (F := F) c k :=
    Entails.of_eq (bigSep_sdiff_split hT.1).symm
  ihave #HS := hu $$ [Hp]
  · isplitr; · iexact HT
    iexact Hp
  ihave #Hrel := (credit_turn c 30 (by decide) (Finset.range 29) (Finset.Subset.refl _) (by rw [Finset.sdiff_self]; decide)) $$ HS
  have h30 : 30 < 31 := by decide
  iapply (rs_core xs P κ σ c ⟨30, h30⟩ [] (fun x hx => absurd hx List.not_mem_nil) _ _ fb) $$ [Hres Hs Hb HP HatL HO]
  · isplitr; · iexact HR
    isplitl [Hres]; · iexact Hres
    isplitr; · iexact Hrel
    isplitl [Hs]; · iexact Hs
    isplitl [Hb]; · iexact Hb
    isplitl [HP]; · iexact HP
    isplitl [HatL]; · iexact HatL
    isplitr; · iexact HrL
    iexact HO
  iintro ⟨Hd, Hs, Hv, Hb, HP, HatL, -, HO⟩
  imod (Rounds.cell_close ER (Rd xs P) (Set.mem_univ (κ (C c sLoc))) (fun h => h) (R := 30 + 1 + 1) (fun r hr => duties_loc_end xs P c r hr)) $$ [HatL] with HzL
  · isplitr; · iapply (recs_loc xs P κ σ c); iexact HR
    iexact HatL
  unfold rsLast
  iapply (wp_load 𝒱₀ (c : Thread nD τ) none Set.univ (m := rM) (Finset.subset_univ _)) $$ Hr; iintro Hr
  iapply (wp_store 𝒱₀ (c : Thread nD τ) none Set.univ (m := rM) (r := fullR) (Mk := Finset.univ) (Finset.subset_univ _)) $$ Hr; iintro Hr
  have er := last_sum P c (par 30) fr 30
  rw [wp_ret]; imodintro
  iapply Hk
  isplitl [Hd]; · iexact Hd
  ihave Hkp := (Entails.of_eq (show kept (F := F) c 30 = vSl (F := F) (c, (1 : Fin 2)) from if_pos rfl)) $$ Hkp
  unfold rsEnd
  isplitl [HzL]; · iexact HzL
  isplitl [Hz]; · iexact Hz
  isplitl [Hs Hs']
  · isplitl [Hs]; · iapply (s_some c (par 30) 0 _ (by decide)); iexact Hs
    icases Hs' with ⟨%fs, Hs'⟩
    iapply (s_some c (par (30 + 1)) 1 _ (by decide)); iexact Hs'
  isplitl [Hv Hkp]
  · isplitl [Hv]
    · iapply (v_some c (par 30) 0 _ (by decide)); iexact Hv
    iexact Hkp
  isplitl [Hb]; · iexists _; iexact Hb
  isplitl [HP]; · iexact HP
  isplitl [Hr]; · rw [er]; iexact Hr
  iexact HO

/-- The last `n` hops and the end. -/
theorem rs_hops (c : Dev nD) (Q : PUnit → sProp 𝕄) (fr : Vec F S512x1024 .f32) : ∀ (n : ℕ) (hn : n ≤ 30) (W : Waits sig ℕ),
    iprop(recs xs P κ σ ∗ rsKnow c ∗ lst (rsRes c) (n + 1) ∗ lst (crRes c) (n + 1) ∗ rsSt P c (30 - n) ∗ (rM.view.loc (c : Thread nD τ) ↦[Finset.univ]{fullShare} fr)
        ∗ owes (c : Thread nD τ) (owed (rsDue (n + 1)) c) W)
      ⊢ iprop(((lst (rsDone c) (n + 1) ∗ rsEnd P c) -∗ Q ⟨⟩)
          -∗ wp frame (wpE (defs₀ (F := F)) 𝒱₀ (c : Thread nD τ) none) Set.univ
              (rsHops (F := F) pM rM sM vM bM (Memref.isWhole_whole _) cc1_scratch3 cc1_scratch4 cc1_scratch5 cc1_scratch6 c n hn) Q)
  | 0, hn, W => by
    have ec : (crRes (F := F) c (hop 0)) = iprop(emp ∗ cred (tallyAt (C c sCr) 107 1)) := rfl
    have ed : rsDue 1 = [dRcv1 ⟨30, by omega⟩] := rfl
    unfold rsHops
    rw [ed]
    unfold lst lst
    rw [ec]
    iintro ⟨#HR, -, ⟨Hres, -⟩, ⟨⟨-, Hc⟩, -⟩, Hst, Hr, HO⟩ Hk
    iapply (rs_last xs P κ σ c W fr) $$ [Hres Hc Hst Hr HO]
    · isplitr; · iexact HR
      isplitl [Hres]; · iexact Hres
      isplitl [Hc]; · iexact Hc
      isplitl [Hst]; · iexact Hst
      isplitl [Hr]; · iexact Hr
      iexact HO
    iintro ⟨Hd, He⟩
    iapply Hk
    isplitl [Hd]
    · isplitl [Hd]; · iexact Hd
      iempintro
    iexact He
  | n + 1, hn, W => by
    have eh : hop (n + 1) = ⟨30 - (n + 1), by omega⟩ := Fin.ext (by show 31 - (n + 1 + 1) = 30 - (n + 1); omega)
    have ed : rsDue (n + 1 + 1) = dRcv1 (hop (n + 1)) :: if (hop (n + 1)).val ≤ 28 then dCr (hop (n + 1)).val :: rsDue (n + 1) else rsDue (n + 1) := rfl
    have el : ∀ Φ : Fin 31 → sProp 𝕄, lst Φ (n + 1 + 1) = iprop(Φ (hop (n + 1)) ∗ lst Φ (n + 1)) := fun _ => rfl
    have hab := rsDue_above (n + 1 + 1) (by omega)
    have hlt := rsDue_above (n + 1) (by omega)
    unfold rsHops
    rw [ed, el, el, el, eh]
    generalize hg : (⟨30 - (n + 1), by omega⟩ : Fin 31) = h
    have hv : h.val = 30 - (n + 1) := by rw [← hg]
    rw [← hv]
    iintro ⟨#HR, #HK, ⟨Hres, Hress⟩, ⟨Hc, Hcs⟩, Hst, Hr, HO⟩ Hk
    iapply (rs_hop xs P κ σ c h (by omega) (rsDue (n + 1)) (fun x hx => by
        split at hx
        · rcases List.mem_cons.mp hx with rfl | hx
          · show 50 + 2 * h.val < 51 + 2 * h.val ∧ 51 + 2 * h.val < 112; omega
          · have := hlt x hx; omega
        · have := hlt x hx; omega) W _) $$ [Hres Hc Hst HO]
    · isplitr; · iexact HR
      isplitr; · iexact HK
      isplitl [Hres]; · iexact Hres
      isplitl [Hc]; · iexact Hc
      isplitl [Hst]; · iexact Hst
      iexact HO
    iintro ⟨Hd, Hst, ⟨%W', HO⟩⟩
    rw [show h.val + 1 = 30 - n by omega]
    have hn' : n ≤ 30 := by omega
    iapply (rs_hops c Q fr n hn' W') $$ [Hress Hcs Hst Hr HO]
    · isplitr; · iexact HR
      isplitr; · iexact HK
      isplitl [Hress]; · iexact Hress
      isplitl [Hcs]; · iexact Hcs
      isplitl [Hst]; · iexact Hst
      isplitl [Hr]; · iexact Hr
      iexact HO
    iintro ⟨Hds, He⟩
    iapply Hk
    isplitl [Hd Hds]
    · isplitl [Hd]; · iexact Hd
      iexact Hds
    iexact He

/-! ## The body -/

/-- What the reduce-scatter holds of one hop when it starts, -/
def rsTok (c : Dev nD) (h : Fin 31) : sProp 𝕄 :=
  iprop(atPos ER (C c (sSnd1 h)) 0 ∅ 0 ∗ reached ER (C c (sSnd1 h)) 0 ∗ atPos ER (C c (sRcv1 h)) 0 ∅ 0
    ∗ dutyTok ER (C c (sSnd1 h)) 0 0 ∗ dutyTok ER (C (nxt c) (sRcv1 h)) 0 0
    ∗ cred (tallyAt (C c (sRcv1 h)) (50 + 2 * h.val) N1) ∗ dutyTok ER (C c sLoc) (h.val + 1) 0 ∗ writeTok ES (nxt c, par h.val) (h.val / 2 + 1))
/-- of all, -/
def rsIn (c : Dev nD) : sProp 𝕄 :=
  iprop((atPos ER (C c sBar1) 0 ∅ 0 ∗ cred (tallyAt (C c sBar1) 40 2) ∗ dutyTok ER (C (prv c) sBar1) 0 0 ∗ dutyTok ER (C (nxt c) sBar1) 0 1)
    ∗ (bigSep Finset.univ fun h : Fin 31 => reached ER (C c (sRcv1 h)) 0) ∗ (bigSep Finset.univ fun h : Fin 31 => rsTok (F := F) c h)
    ∗ (bigSep Finset.univ fun h : Fin 31 => crRes (F := F) c h)
    ∗ (atPos ER (C c sLoc) 0 ∅ 0 ∗ reached ER (C c sLoc) 0 ∗ dutyTok ER (C c sLoc) 0 0) ∗ (atPos ER (C c sCr) 0 ∅ 0 ∗ reached ER (C c sCr) 0)
    ∗ readerAt ES (c, (0 : Fin 2)) 0 ∗ readerAt ES (c, (1 : Fin 2)) 0)
/-- and what it holds when it ends: all its semaphores at zero. -/
def rsOut (c : Dev nD) : sProp 𝕄 :=
  iprop(semVal (C c sBar1) 0 ∗ (bigSep Finset.univ fun h : Fin 31 => rsDone (F := F) c h) ∗ semVal (C c sLoc) 0 ∗ semVal (C c sCr) 0)

omit [FloatOps F] in
theorem lead_split : (Finset.univ : Finset S2x512x1024.Idx) \ lead 0 = lead 1 := by
  refine Finset.ext fun (i : S2x512x1024.Idx) => ?_
  have hi : (i 0).val < 2 := (i 0).isLt
  rw [Finset.mem_sdiff, mem_lead, mem_lead]
  constructor
  · rintro ⟨-, h⟩; omega
  · intro h; exact ⟨Finset.mem_univ _, by omega⟩

omit [FloatOps F] in
/-- The send buffer is its two slots; -/
theorem s_slots (c : Dev nD) (f : Vec F S2x512x1024 .f32) : (sM.view.loc (c : Thread nD τ) ↦[Finset.univ]{fullShare} f : sProp 𝕄) ⊢ iprop(sPt c 0 f ∗ sPt c 1 f) := by
  have h := pointsTo_split_subset (nD := nD) (τ := τ) (sig := sig) (Ix := ℕ) (Val := Elt F) (Name := ℕ) (U := UU) (Lvl := ℕ) (ℓ := sM.view.loc (c : Thread nD τ)) (q := fullShare) (f := f)
    (Finset.subset_univ (lead 0 : Finset S2x512x1024.Idx))
  rw [lead_split] at h
  unfold sPt
  rw [sSlot_set, sSlot_set]
  exact h.1
omit [FloatOps F] in
theorem v_slots (c : Dev nD) (f : Vec F S2x512x1024 .f32) : (vM.view.loc (c : Thread nD τ) ↦[Finset.univ]{fullShare} f : sProp 𝕄) ⊢ iprop(vPt c 0 f ∗ vPt c 1 f) := by
  have h := pointsTo_split_subset (nD := nD) (τ := τ) (sig := sig) (Ix := ℕ) (Val := Elt F) (Name := ℕ) (U := UU) (Lvl := ℕ) (ℓ := vM.view.loc (c : Thread nD τ)) (q := fullShare) (f := f)
    (Finset.subset_univ (lead 0 : Finset S2x512x1024.Idx))
  rw [lead_split] at h
  unfold vPt
  rw [vSlot_set, vSlot_set]
  exact h.1
omit [FloatOps F] in
theorem s_join (c : Dev nD) : iprop((∃ f, sPt (F := F) c 0 f) ∗ ∃ f, sPt (F := F) c 1 f) ⊢ iprop(∃ f, (sM.view.loc (c : Thread nD τ) ↦[Finset.univ]{fullShare} f : sProp 𝕄)) := by
  iintro ⟨⟨%f, H⟩, ⟨%g, H'⟩⟩
  have h := pointsTo_join_subset (nD := nD) (τ := τ) (sig := sig) (Ix := ℕ) (Val := Elt F) (Name := ℕ) (U := UU) (Lvl := ℕ) (ℓ := sM.view.loc (c : Thread nD τ)) (q := fullShare) (g := f) (f := g)
    (Finset.subset_univ (lead 0 : Finset S2x512x1024.Idx))
  rw [lead_split] at h
  unfold sPt
  rw [sSlot_set, sSlot_set]
  iexists _
  iapply h
  isplitl [H]; · iexact H
  iexact H'
omit [FloatOps F] in
theorem v_join (c : Dev nD) : iprop(vSl (F := F) (c, (0 : Fin 2)) ∗ vSl (F := F) (c, (1 : Fin 2))) ⊢ iprop(∃ f, (vM.view.loc (c : Thread nD τ) ↦[Finset.univ]{fullShare} f : sProp 𝕄)) := by
  unfold vSl
  iintro ⟨⟨%f, H⟩, ⟨%g, H'⟩⟩
  have h := pointsTo_join_subset (nD := nD) (τ := τ) (sig := sig) (Ix := ℕ) (Val := Elt F) (Name := ℕ) (U := UU) (Lvl := ℕ) (ℓ := vM.view.loc (c : Thread nD τ)) (q := fullShare) (g := f) (f := g)
    (Finset.subset_univ (lead 0 : Finset S2x512x1024.Idx))
  rw [lead_split] at h
  unfold vPt
  rw [vSlot_set, vSlot_set]
  iexists _
  iapply h
  isplitl [H]; · iexact H
  iexact H'

omit [FloatOps F] in
theorem rs_gather (c : Dev nD) :
    iprop((bigSep Finset.univ fun h : Fin 31 => rsTok (F := F) c h) ∗ bigSep Finset.univ fun h : Fin 31 => reached ER (C (nxt c) (sRcv1 h)) 0) ⊢ lst (rsRes (F := F) c) 31 := by
  rw [lst_eq, ← sep_split]
  refine sep_each _ fun h => ?_
  unfold rsTok rsRes
  iintro ⟨⟨H1, H2, H3, H4, H5, H6, H7, H8⟩, H9⟩
  isplitl [H1]; · iexact H1
  isplitl [H2]; · iexact H2
  isplitl [H3]; · iexact H3
  isplitl [H4]; · iexact H4
  isplitl [H5]; · iexact H5
  isplitl [H9]; · iexact H9
  isplitl [H6]; · iexact H6
  isplitl [H7]; · iexact H7
  iexact H8

theorem loc_pay0 (c : Dev nD) :
    locPay P c 0 = iprop(((slotM sM 0).view.loc (c : Thread nD τ) ↦[(slotM sM 0).view.set]{fullShare} (two (acc P 0 c) : Vec F S2x512x1024 .f32)) ∗ pPt c (rowIx c 1) (P c)) := rfl

omit [FloatOps F] in
theorem bPt_univ (c : Dev nD) (f : Vec F S512x1024 .f32) : (bPt c f : sProp 𝕄) = (bM.view.loc (c : Thread nD τ) ↦[Finset.univ]{fullShare} f) := by
  unfold bPt
  rw [Memref.IsWhole.set_eq_univ (Memref.isWhole_whole cc1_scratch2)]

set_option maxHeartbeats 800000 in
theorem rs_body (c : Dev nD) (W : Waits sig ℕ) (fr fb : Vec F S512x1024 .f32) (fs fv : Vec F S2x512x1024 .f32) (Q : PUnit → sProp 𝕄) :
    iprop(recs xs P κ σ ∗ rsIn c ∗ owes (c : Thread nD τ) (owed rsAll c) W ∗ pAll P c
        ∗ (rM.view.loc (c : Thread nD τ) ↦[Finset.univ]{fullShare} fr) ∗ (sM.view.loc (c : Thread nD τ) ↦[Finset.univ]{fullShare} fs)
        ∗ (vM.view.loc (c : Thread nD τ) ↦[Finset.univ]{fullShare} fv) ∗ (bM.view.loc (c : Thread nD τ) ↦[Finset.univ]{fullShare} fb))
      ⊢ iprop(((rsOut c ∗ (∃ W', owes (c : Thread nD τ) (owed [] c) W') ∗ pAll P c
            ∗ (rM.view.loc (c : Thread nD τ) ↦[Finset.univ]{fullShare} (acc P 31 c)) ∗ (∃ f : Vec F S2x512x1024 .f32, (sM.view.loc (c : Thread nD τ) ↦[Finset.univ]{fullShare} f))
            ∗ (∃ f : Vec F S2x512x1024 .f32, (vM.view.loc (c : Thread nD τ) ↦[Finset.univ]{fullShare} f)) ∗ (∃ f : Vec F S512x1024 .f32, (bM.view.loc (c : Thread nD τ) ↦[Finset.univ]{fullShare} f))) -∗ Q ⟨⟩)
        -∗ wp frame (wpE (defs₀ (F := F)) 𝒱₀ (c : Thread nD τ) none) Set.univ
            (rsProg (F := F) pM rM sM vM bM (Memref.isWhole_whole _) cc1_scratch3 cc1_scratch4 cc1_scratch5 cc1_scratch6) Q) := by
  have hl0 : ∀ x ∈ rsDue 31, 0 < x.i ∧ x.i < NL := fun x hx => by have := rsDue_above 31 le_rfl x hx; omega
  unfold rsProg rsIn rsOut rsAll
  simp only [semSignalWord, semWaitWord, Prog.lift, Prog.bind_op, Prog.bind_ret, Prog.pure_eq_ret, wp_deviceId]
  iintro ⟨#HR, ⟨⟨Hat, Hc, Ht0, Ht1⟩, #Hrs, Htk, Hcr, ⟨HatL, #HrL, HtL⟩, ⟨HatC, #HrC⟩, Hr0, Hr1⟩, HO, HP, Hr, Hs, Hv, Hb⟩ Hk
  ihave Hv := (v_slots c fv) $$ Hv
  icases Hv with ⟨Hv0, Hv1⟩
  ihave #Hs0 := (recs_slot xs P κ σ (c, (0 : Fin 2))) $$ HR
  ihave #Hs1 := (recs_slot xs P κ σ (c, (1 : Fin 2))) $$ HR
  imod (slot_release ES (Set.mem_univ (σ (c, (0 : Fin 2)))) (vSl_false (c, (0 : Fin 2))) 0) $$ [Hr0 Hv0] with ⟨Hr0, #Hrel0⟩
  · isplitr; · iexact Hs0
    isplitl [Hr0]; · iexact Hr0
    unfold vSl; iexists fv; iexact Hv0
  imod (slot_release ES (Set.mem_univ (σ (c, (1 : Fin 2)))) (vSl_false (c, (1 : Fin 2))) 0) $$ [Hr1 Hv1] with ⟨Hr1, #Hrel1⟩
  · isplitr; · iexact Hs1
    isplitl [Hr1]; · iexact Hr1
    unfold vSl; iexists fv; iexact Hv1
  ihave #Hb0 := (recs_bar1 xs P κ σ (prv c)) $$ HR
  icases Hb0 with ⟨#HIp, #Hrp⟩
  ihave #Hb0 := (recs_bar1 xs P κ σ (nxt c)) $$ HR
  icases Hb0 with ⟨#HIn, #Hrn⟩
  ihave #Hb0 := (recs_bar1 xs P κ σ c) $$ HR
  icases Hb0 with ⟨#HIc, -⟩
  iapply (sig_pay xs P κ c _ (prv c) (k1_dev1_prv c) (SemArray.scalar (sig.barrier 1 rfl) : Sems sig S_).sem 0 _ (by decide) (dBar1 false) rfl rfl
    (by rw [kd_bar1]; decide) (by rw [kd_bar1]; rfl) ((congrArg (fun z => pay xs P (prv c) z 0 0) kd_bar1).trans (pay_bar1_zero xs P (prv c) 0)) (dBar1 true :: rsDue 31) W) $$ [HO Ht0]
  · isplitr; · iexact HIp
    isplitl [HO]; · iexact HO
    isplitl [Ht0]; · iexact Ht0
    isplitr
    · unfold bar1Pay
      rw [nxt_prv]
      isplitr
      · isplitr; · iexact Hrel0
        iexact Hrel1
      · iexact Hrs
    · iexact Hrp
  iintro HO
  iapply (sig_pay xs P κ c _ (nxt c) (k1_dev2_nxt c) (SemArray.scalar (sig.barrier 1 rfl) : Sems sig S_).sem 1 _ (by decide) (dBar1 true) rfl rfl
    (by rw [kd_bar1]; decide) (by rw [kd_bar1]; rfl) ((congrArg (fun z => pay xs P (nxt c) z 0 1) kd_bar1).trans (pay_bar1_one xs P (nxt c) 0)) (rsDue 31) W) $$ [HO Ht1]
  · isplitr; · iexact HIn
    isplitl [HO]; · iexact HO
    isplitl [Ht1]; · iexact Ht1
    isplitr; · rw [prv_nxt]; iexact HrC
    iexact Hrn
  iintro HO
  iapply (wait_all xs P κ σ c sBar1 2 (D := {0, 1}) (Y := iprop(bar1Pay c ∗ reached ER (C (prv c) sCr) 0)) (wpE_semWait_eq 𝒱₀ (c : Thread nD τ) none Set.univ) (by rw [kd_bar1]; rfl)
    (by rw [kd_bar1, sep_cons (by decide), bigSep_singleton, pay_bar1_zero, pay_bar1_one]) (by rw [kd_bar1]; rfl) (by rw [kd_bar1]; decide) 40 (by decide)
    (fun x hx => by have := rsDue_above 31 le_rfl x hx; omega)) $$ [Hc HO Hat]
  · isplitr; · iexact HR
    isplitr; · iexact HIc
    isplitl [Hc]; · iexact Hc
    isplitl [HO]; · iexact HO
    iexact Hat
  iintro ⟨⟨%W1, HO⟩, Hz, ⟨Hb1, #Hrc⟩⟩
  unfold bar1Pay
  icases Hb1 with ⟨⟨#Hn0, #Hn1⟩, #Hrv⟩
  unfold pAll
  ihave HP := (p_split P c (rowIx c 1)).1 $$ HP
  icases HP with ⟨Hrow, Hrest⟩
  ihave Hs := (s_slots c fs) $$ Hs
  icases Hs with ⟨Hs, Hs'⟩
  iapply (loc_copy xs P κ σ c 0 (by omega) (rowIx c 1) _ (pRow0_eq pM c) (slotM sM 0) (N1_s 0) (two (acc P 0 c)) (read_sSlot 0 _) (loc_pay0 P c) fs) $$ [Hrow Hs HtL]
  · isplitr; · iexact HR
    isplitl [Hrow]; · iexact Hrow
    isplitl [Hs]; · unfold sPt; iexact Hs
    isplitl [HtL]; · iexact HtL
    iexact HrL
  iintro HcL
  iapply (wait_loc xs P κ σ c 0 (by omega) (by intro K; rw [← N1_s 0]; exact wpE_waitDma2_eq 𝒱₀ (c : Thread nD τ) none Set.univ K) (l := rsDue 31) hl0) $$ [HcL HO HatL]
  · isplitr; · iexact HR
    isplitl [HcL]; · iexact HcL
    isplitl [HO]; · iexact HO
    iexact HatL
  iintro ⟨⟨%W2, HO⟩, HatL, #HrL', Hp⟩
  ihave Hp := (Entails.of_eq (loc_pay0 P c)) $$ Hp
  icases Hp with ⟨Hs, Hrow⟩
  ihave HP := (p_split P c (rowIx c 1)).2 $$ [Hrow Hrest]
  · isplitl [Hrow]; · iexact Hrow
    iexact Hrest
  iapply (rs_hops xs P κ σ c Q fr 30 le_rfl W2) $$ [Htk Hcr HatC Hr0 Hr1 Hs Hs' Hb HP HatL Hr HO]
  · isplitr; · iexact HR
    isplitr
    · unfold rsKnow
      isplitr; · iexact Hn0
      isplitr; · iexact Hn1
      iexact Hrc
    isplitl [Htk]
    · iapply (rs_gather c)
      isplitl [Htk]; · iexact Htk
      iexact Hrv
    isplitl [Hcr]; · rw [lst_eq]; iexact Hcr
    isplitr [Hr HO]
    · rw [show 30 - 30 = 0 from rfl]
      unfold rsSt crAt rdr kept
      rw [if_pos (by decide), if_neg (by decide)]
      isplitl [HatC]
      · iexists ∅
        isplitr; · ipureintro; exact ⟨Finset.empty_subset _, by decide⟩
        isplitl [HatC]; · iexact HatC
        rw [bigSep_empty]; iempintro
      isplitl [Hr0 Hr1]
      · isplitl [Hr0]; · iexact Hr0
        isplitl [Hr1]; · iexact Hr1
        iexact Hrel1
      isplitl [Hs]; · unfold sPt; iexact Hs
      isplitl [Hs']; · iexists fs; iexact Hs'
      isplitl [Hb]; · iexists fb; rw [bPt_univ]; iexact Hb
      isplitl [HP]; · unfold pAll; iexact HP
      isplitl [HatL]; · iexact HatL
      isplitr; · iexact HrL'
      iempintro
    isplitl [Hr]; · iexact Hr
    iexact HO
  unfold rsEnd
  iintro ⟨Hd, HzL, HzC, Hs, Hv, ⟨%f, Hb⟩, HP, Hr, HO⟩
  ihave Hs := (s_join c) $$ Hs
  ihave Hd := (Entails.of_eq (lst_eq (rsDone (F := F) c))) $$ Hd
  ihave Hv := (v_join c) $$ Hv
  ihave Hb := (Entails.of_eq (bPt_univ c f)) $$ Hb
  iapply Hk
  isplitl [Hz Hd HzL HzC]
  · isplitl [Hz]; · iexact Hz
    isplitl [Hd]; · iexact Hd
    isplitl [HzL]; · iexact HzL
    iexact HzC
  isplitl [HO]; · iexact HO
  isplitl [HP]; · unfold pAll; iexact HP
  isplitl [Hr]; · iexact Hr
  isplitl [Hs]; · iexact Hs
  isplitl [Hv]; · iexact Hv
  iexists f; iexact Hb

end Cert.K
-- ==== Proof.Vals.lean ====
/-
  What the buffers hold between @main's items, and the two calls' proof data.
-/
module

public import proofs.«01_k».proof.Proof.RsBody
public import proofs.«01_k».proof.Proof.Gen.KernelIdeal.Regions
public import proofs.«01_k».proof.Proof.Gen.KernelIdeal.Points
public import Idealize.ShloMosaic.Lib.Pipeline.RegionTalk

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

section Vals

variable (m : (ℓ : Loc nD τ sig) → Buf (Elt F) ℓ)

/-- A device's row of `x`, as the all-gather takes it; -/
def xs (c : Dev nD) : Vec F S512x1024 .bf16 := V1 m c main_v1
/-- its buffers after the all-gather; -/
def U2 (c : Dev nD) : Valuation τ sig (Elt F) := Function.update (V1 m c) (Proc.devRef .tc main_v2) (gath (xs m) : Vec F S32x512x1024 .bf16)
/-- after the attention; -/
def U3 (c : Dev nD) : Valuation τ sig (Elt F) := StableHlo.after hostOps1 (U2 m c)
/-- its partial sums; -/
def PP (c : Dev nD) : Vec F S32x512x1024 .f32 := U3 m c main_v30
/-- and its buffers after the reduce-scatter. -/
def U4 (c : Dev nD) : Valuation τ sig (Elt F) := Function.update (U3 m c) (Proc.devRef .tc main_v31) (acc (PP m) 31 c : Vec F S512x1024 .f32)

/-- The same, as the items' statements read them. -/
def outs : Outs (F := F) := fun J r c => if J = 2 then U2 m c (Proc.devRef .tc r) else U4 m c (Proc.devRef .tc r)

theorem V2_eq (c : Dev nD) : V2 m (outs m) c = U2 m c := by
  unfold V2 U2
  have e0 : outs m 2 main_v2 c = U2 m c (Proc.devRef .tc main_v2) := rfl
  have e : outs m 2 main_v2 c = (gath (xs m) : Vec F S32x512x1024 .bf16) := e0.trans (Function.update_self ..)
  rw [e]
theorem V3_eq (c : Dev nD) : V3 m (outs m) c = U3 m c := by
  unfold V3 U3; rw [V2_eq]
theorem V4_eq (c : Dev nD) : V4 m (outs m) c = U4 m c := by
  unfold V4; rw [V3_eq]
  funext b
  have e31 : outs m 4 main_v31 c = U4 m c (Proc.devRef .tc main_v31) := rfl
  have e30 : outs m 4 main_v30 c = U4 m c (Proc.devRef .tc main_v30) := rfl
  have e2 : outs m 4 main_v2 c = U4 m c (Proc.devRef .tc main_v2) := rfl
  rw [e31, e30, e2]
  by_cases h2 : b = Proc.devRef .tc main_v2
  · subst h2; exact Function.update_self ..
  rw [Function.update_of_ne h2]
  by_cases h30 : b = Proc.devRef .tc main_v30
  · subst h30; exact Function.update_self ..
  rw [Function.update_of_ne h30]
  by_cases h31 : b = Proc.devRef .tc main_v31
  · subst h31; exact Function.update_self ..
  rw [Function.update_of_ne h31]
  unfold U4; rw [Function.update_of_ne h31]

theorem U2_v2 (c : Dev nD) : U2 m c (Proc.devRef .tc main_v2) = (gath (xs m) : Vec F S32x512x1024 .bf16) := Function.update_self ..
theorem U2_of (c : Dev nD) (b : DevRef τ sig) (h : b ≠ Proc.devRef .tc main_v2) : U2 m c b = V1 m c b := Function.update_of_ne h ..
theorem U4_v31 (c : Dev nD) : U4 m c (Proc.devRef .tc main_v31) = (acc (PP m) 31 c : Vec F S512x1024 .f32) := Function.update_self ..
theorem U4_of (c : Dev nD) (b : DevRef τ sig) (h : b ≠ Proc.devRef .tc main_v31) : U4 m c b = U3 m c b := Function.update_of_ne h ..

/-! ## What a device holds of the rings' records -/

section Seeds

/-- One hop of the all-gather before its call opens its semaphores; -/
def agSeedTok (c : Dev nD) (h : Fin 31) : sProp 𝕄 :=
  iprop(openTok ER (C c (sSnd0 h)) ∗ openTok ER (C c (sRcv0 h))
    ∗ dutyTok ER (C c (sSnd0 h)) 0 0 ∗ dutyTok ER (C (nxt c) (sRcv0 h)) 0 0 ∗ cred (tallyAt (C c (sRcv0 h)) (2 + h.val) N0))
/-- all of it; -/
def agSeed (c : Dev nD) : sProp 𝕄 :=
  iprop((atPos ER (C c sBar0) 0 ∅ 0 ∗ cred (tallyAt (C c sBar0) 1 2) ∗ dutyTok ER (C (prv c) sBar0) 0 0 ∗ dutyTok ER (C (nxt c) sBar0) 0 1)
    ∗ bigSep Finset.univ fun h : Fin 31 => agSeedTok (F := F) c h)
/-- one hop of the reduce-scatter; -/
def rsSeedTok (c : Dev nD) (h : Fin 31) : sProp 𝕄 :=
  iprop(openTok ER (C c (sSnd1 h)) ∗ openTok ER (C c (sRcv1 h))
    ∗ dutyTok ER (C c (sSnd1 h)) 0 0 ∗ dutyTok ER (C (nxt c) (sRcv1 h)) 0 0
    ∗ cred (tallyAt (C c (sRcv1 h)) (50 + 2 * h.val) N1) ∗ dutyTok ER (C c sLoc) (h.val + 1) 0 ∗ writeTok ES (nxt c, par h.val) (h.val / 2 + 1))
/-- all of it. -/
def rsSeed (c : Dev nD) : sProp 𝕄 :=
  iprop((atPos ER (C c sBar1) 0 ∅ 0 ∗ cred (tallyAt (C c sBar1) 40 2) ∗ dutyTok ER (C (prv c) sBar1) 0 0 ∗ dutyTok ER (C (nxt c) sBar1) 0 1)
    ∗ (bigSep Finset.univ fun h : Fin 31 => rsSeedTok (F := F) c h) ∗ (bigSep Finset.univ fun h : Fin 31 => crRes (F := F) c h)
    ∗ (openTok ER (C c sLoc) ∗ dutyTok ER (C c sLoc) 0 0) ∗ openTok ER (C c sCr)
    ∗ readerAt ES (c, (0 : Fin 2)) 0 ∗ readerAt ES (c, (1 : Fin 2)) 0)

end Seeds

/-- What a device keeps for the two calls, before the first, -/
def Tk0 (c : Dev nD) : sProp 𝕄 := iprop(∃ κ σ, recs (xs m) (PP m) κ σ ∗ agSeed c ∗ rsSeed c)
/-- within it, -/
def Xk0 (c : Dev nD) : sProp 𝕄 := iprop(∃ κ σ, recs (xs m) (PP m) κ σ ∗ agIn c ∗ rsSeed c)
/-- between the two, -/
def Tk1 (c : Dev nD) : sProp 𝕄 := iprop(semVal (C c sBar0) 0 ∗ ∃ κ σ, recs (xs m) (PP m) κ σ ∗ rsSeed c)
/-- within the second, -/
def Xk1 (c : Dev nD) : sProp 𝕄 := iprop(semVal (C c sBar0) 0 ∗ ∃ κ σ, recs (xs m) (PP m) κ σ ∗ rsIn c)
omit [FloatOps F] in
/-- and after it. -/
def Tk2 (c : Dev nD) : sProp 𝕄 := iprop(semVal (C c sBar0) 0 ∗ semVal (C c sBar1) 0)

/-! ## The proof data -/

/-- A whole buffer at anything. -/
abbrev anyB (c : Dev nD) (b : Ref sig .tc) : sProp 𝕄 := iprop(∃ f : Buf (Elt F) ((c : Thread nD τ).loc b), ((c : Thread nD τ).loc b) ↦{fullShare} f)
omit [FloatOps F] in
/-- The scoped buffers the all-gather does not name; -/
def rest0 (c : Dev nD) : sProp 𝕄 := iprop(anyB (F := F) c cc1_stg0_0 ∗ anyB (F := F) c cc1_scratch0 ∗ anyB (F := F) c cc1_scratch1 ∗ anyB (F := F) c cc1_scratch2)
omit [FloatOps F] in
/-- the scoped buffers besides the reduce-scatter's window. -/
def rest1 (c : Dev nD) : sProp 𝕄 :=
  iprop(anyB (F := F) c cc0_stg0_0 ∗ anyB (F := F) c cc0_stg1_0 ∗ anyB (F := F) c cc1_scratch0 ∗ anyB (F := F) c cc1_scratch1 ∗ anyB (F := F) c cc1_scratch2)
/-- The semaphores the all-gather scopes, at zero; -/
def own0 (c : Dev nD) : sProp 𝕄 := bigSep Finset.univ fun h : Fin 31 => iprop(semVal (C c (sSnd0 h)) 0 ∗ semVal (C c (sRcv0 h)) 0)
/-- and the reduce-scatter's. -/
def own1 (c : Dev nD) : sProp 𝕄 :=
  iprop((bigSep Finset.univ fun h : Fin 31 => rsDone (F := F) c h) ∗ semVal (C c sLoc) 0 ∗ semVal (C c sCr) 0)

/-- The all-gather's: its row of `x` in, the gathered rows out. -/
def dat0 (c : Dev nD) : Dat τ (Elt F) ℕ ℕ UU ℕ cfg0 c where
  A w := match w with
    | ⟨0, _⟩ => (V1 m c (Proc.devRef .tc main_v1) : Buf (Elt F) ((c : Thread nD τ).loc main_v1))
    | ⟨1, _⟩ => (V1 m c (Proc.devRef .tc main_v2) : Buf (Elt F) ((c : Thread nD τ).loc main_v2))
  after w _ := match w with
    | ⟨0, _⟩ => (xs m c : Vec F S512x1024 .bf16)
    | ⟨1, _⟩ => (gath (xs m) : Vec F S32x512x1024 .bf16)
  Φ t := if t.val = 0 then iprop(rest0 c ∗ (∃ r, prngReg c r) ∗ Xk0 m c) else iprop(rest0 c ∗ (∃ r, prngReg c r) ∗ own0 c ∗ Tk1 m c)
  q _ := fullShare
  owed t := if t.val = 0 then owed allDue c else owed rsAll c

/-- The reduce-scatter's: its block of the sum out. -/
def dat1 (c : Dev nD) : Dat τ (Elt F) ℕ ℕ UU ℕ cfg1 c where
  A w := match w with
    | ⟨0, _⟩ => (U3 m c (Proc.devRef .tc main_v31) : Buf (Elt F) ((c : Thread nD τ).loc main_v31))
  after w _ := match w with
    | ⟨0, _⟩ => (acc (PP m) 31 c : Vec F S512x1024 .f32)
  Φ t := if t.val = 0 then iprop(rest1 c ∗ (∃ r, prngReg c r) ∗ pAll (PP m) c ∗ Xk1 m c) else iprop(rest1 c ∗ (∃ r, prngReg c r) ∗ pAll (PP m) c ∗ own1 c ∗ Tk2 c)
  q _ := fullShare
  owed t := if t.val = 0 then owed rsAll c else 0

def pdats : (p : Fin 2) → (c : Dev nD) → Dat τ (Elt F) ℕ ℕ UU ℕ (Pipeline.pin (pcfgs (F := F)) adm p) c
  | 0 => dat0 m
  | 1 => dat1 m

/-- The one block of `x`'s window is the whole row. -/
theorem before0 (c : Dev nD) (d : S512x1024.Idx → Elt F .bf16) : (dat0 m c).before (0 : Fin 2) t0_0 d = xs m c := by
  unfold Dat.before
  rw [if_pos (fetch0_0 t0_0)]
  have h : (win0_0.blk (0 : Fin 1)).view.read (Elt F) (V1 m c (Proc.devRef .tc main_v1)) = xs m c :=
    Memref.read_access_unit_zero (Elt F) main_v1 (funext fun a => by fin_cases a <;> rfl) _ _
  exact h

theorem arr0_x (c : Dev nD) (n : ℕ) : (dat0 m c).arrAt (0 : Fin 2) n = V1 m c (Proc.devRef .tc main_v1) := (dat0 m c).arrAt_in (0 : Fin 2) rfl n
theorem arr0_o (c : Dev nD) : (dat0 m c).arrAt (1 : Fin 2) cfg0.N = (gath (xs m) : Vec F S32x512x1024 .bf16) := by
  rw [show cfg0.N = (t0_0 : Fin cfg0.N).val + 1 from N_0, (dat0 m c).arrAt_succ (1 : Fin 2) t0_0, if_pos (flush0_1 t0_0)]
  exact Memref.write_access_unit_zero_univ (Elt F) main_v2 (funext fun a => by fin_cases a <;> rfl) _ _ _
theorem arr1_r (c : Dev nD) : (dat1 m c).arrAt (0 : Fin 1) cfg1.N = (acc (PP m) 31 c : Vec F S512x1024 .f32) := by
  rw [show cfg1.N = (t1_0 : Fin cfg1.N).val + 1 from N_1, (dat1 m c).arrAt_succ (0 : Fin 1) t1_0, if_pos (flush1_0 t1_0)]
  exact Memref.write_access_unit_zero_univ (Elt F) main_v31 (funext fun a => by fin_cases a <;> rfl) _ _ _

end Vals

end Cert.K
-- ==== Proof.Regs.lean ====
/-
  The two calls as regions: what opens their semaphores, their bodies' obligations, their records.
-/
module

public import proofs.«01_k».proof.Proof.Vals

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

/-! ## Opening the scoped semaphores -/

section Open

variable (xs : Dev nD → Vec F S512x1024 .bf16) (P : Dev nD → Vec F S32x512x1024 .f32) (κ : GSem nD τ sig → ℕ) (σ : Dev nD × Fin 2 → ℕ)

/-- A scoped semaphore at zero opens as its round 0. -/
theorem open_own (c : Dev nD) (y : Ky0 ⊕ Ky1) :
    iprop(recs xs P κ σ ∗ openTok ER (C c (osem y)) ∗ semVal (C c (osem y)) 0)
      ⊢ iprop(|={Set.univ}=> (atPos ER (C c (osem y)) 0 ∅ 0 ∗ reached ER (C c (osem y)) 0) : sProp 𝕄) := by
  have h : iprop(cellInv ER (Rd xs P) (κ (C c (osem y))) (C c (osem y)) ∗ openTok ER (C c (osem y)) ∗ semVal (C c (osem y)) 0)
      ⊢ iprop(|={Set.univ}=> (atPos ER (C c (osem y)) 0 ∅ 0 ∗ reached ER (C c (osem y)) 0) : sProp 𝕄) :=
    Rounds.cell_open ER (Rd xs P) (g := C c (osem y)) (Set.mem_univ (κ (C c (osem y))))
  iintro ⟨#HR, Ho, Hz⟩
  iapply h
  isplitr; · iapply (recs_own xs P κ σ c y); iexact HR
  isplitl [Ho] <;> iassumption

theorem open_hop0 (c : Dev nD) (h : Fin 31) :
    iprop(recs xs P κ σ ∗ (semVal (C c (sSnd0 h)) 0 ∗ semVal (C c (sRcv0 h)) 0) ∗ agSeedTok (F := F) c h)
      ⊢ iprop(|={Set.univ}=> (reached ER (C c (sRcv0 h)) 0 ∗ agTok (F := F) c h) : sProp 𝕄) := by
  unfold agSeedTok agTok
  iintro ⟨#HR, ⟨Hz, Hz'⟩, Ho, Ho', H1, H2, H3⟩
  imod (open_own xs P κ σ c (.inl (.inl h))) $$ [Ho Hz] with ⟨Hat, #Hr⟩
  · isplitr; · iexact HR
    isplitl [Ho]; · iexact Ho
    iexact Hz
  imod (open_own xs P κ σ c (.inl (.inr h))) $$ [Ho' Hz'] with ⟨Hat', #Hr'⟩
  · isplitr; · iexact HR
    isplitl [Ho']; · iexact Ho'
    iexact Hz'
  imodintro
  isplitr; · iexact Hr'
  isplitl [Hat]; · iexact Hat
  isplitr; · iexact Hr
  isplitl [Hat']; · iexact Hat'
  isplitl [H1]; · iexact H1
  isplitl [H2] <;> iassumption

theorem open_hop1 (c : Dev nD) (h : Fin 31) :
    iprop(recs xs P κ σ ∗ rsDone (F := F) c h ∗ rsSeedTok (F := F) c h)
      ⊢ iprop(|={Set.univ}=> (reached ER (C c (sRcv1 h)) 0 ∗ rsTok (F := F) c h) : sProp 𝕄) := by
  unfold rsSeedTok rsTok rsDone
  iintro ⟨#HR, ⟨Hz, Hz'⟩, Ho, Ho', H1, H2, H3, H4, H5⟩
  imod (open_own xs P κ σ c (.inr (.inl (.inl h)))) $$ [Ho Hz] with ⟨Hat, #Hr⟩
  · isplitr; · iexact HR
    isplitl [Ho]; · iexact Ho
    iexact Hz
  imod (open_own xs P κ σ c (.inr (.inl (.inr h)))) $$ [Ho' Hz'] with ⟨Hat', #Hr'⟩
  · isplitr; · iexact HR
    isplitl [Ho']; · iexact Ho'
    iexact Hz'
  imodintro
  isplitr; · iexact Hr'
  isplitl [Hat]; · iexact Hat
  isplitr; · iexact Hr
  isplitl [Hat']; · iexact Hat'
  isplitl [H1]; · iexact H1
  isplitl [H2]; · iexact H2
  isplitl [H3]; · iexact H3
  isplitl [H4] <;> iassumption

/-- A step every hop takes, all hops take. -/
theorem all_hops {Φ Ψ Ψ' : Fin 31 → sProp 𝕄} {S : Fin 31 → sProp 𝕄}
    (h : ∀ i, iprop(recs xs P κ σ ∗ S i ∗ Φ i) ⊢ iprop(|={Set.univ}=> (Ψ i ∗ Ψ' i) : sProp 𝕄)) :
    iprop(recs xs P κ σ ∗ bigSep Finset.univ S ∗ bigSep Finset.univ Φ) ⊢ iprop(|={Set.univ}=> (bigSep Finset.univ Ψ ∗ bigSep Finset.univ Ψ') : sProp 𝕄) := by
  have h1 : iprop(recs xs P κ σ ∗ bigSep Finset.univ fun i => iprop(S i ∗ Φ i)) ⊢ bigSep Finset.univ fun i => iprop(|={Set.univ}=> (Ψ i ∗ Ψ' i) : sProp 𝕄) :=
    bigSep_with_persistent fun i _ => h i
  rw [← sep_split, ← sep_split]
  exact h1.trans (bigSep_fupd _ _)

theorem open0 (c : Dev nD) :
    iprop(recs xs P κ σ ∗ own0 (F := F) c ∗ agSeed (F := F) c) ⊢ iprop(|={Set.univ}=> agIn (F := F) c : sProp 𝕄) := by
  unfold agSeed agIn own0
  iintro ⟨#HR, Hz, ⟨H1, H2, H3, H4⟩, Hs⟩
  imod (all_hops xs P κ σ (open_hop0 xs P κ σ c)) $$ [Hz Hs] with ⟨Hr, Ht⟩
  · isplitr; · iexact HR
    isplitl [Hz] <;> iassumption
  imodintro
  isplitl [H1]; · iexact H1
  isplitl [H2]; · iexact H2
  isplitl [H3]; · iexact H3
  isplitl [H4]; · iexact H4
  isplitl [Hr] <;> iassumption

theorem open1 (c : Dev nD) :
    iprop(recs xs P κ σ ∗ own1 (F := F) c ∗ rsSeed (F := F) c) ⊢ iprop(|={Set.univ}=> rsIn (F := F) c : sProp 𝕄) := by
  unfold rsSeed rsIn own1
  iintro ⟨#HR, ⟨Hz, HzL, HzC⟩, Hb, Hs, Hcr, ⟨HoL, HtL⟩, HoC, Hr0, Hr1⟩
  imod (all_hops xs P κ σ (open_hop1 xs P κ σ c)) $$ [Hz Hs] with ⟨Hr, Ht⟩
  · isplitr; · iexact HR
    isplitl [Hz] <;> iassumption
  imod (open_own xs P κ σ c (.inr (.inr 0))) $$ [HoL HzL] with ⟨HatL, HrL⟩
  · isplitr; · iexact HR
    isplitl [HoL]; · iexact HoL
    iexact HzL
  imod (open_own xs P κ σ c (.inr (.inr 1))) $$ [HoC HzC] with ⟨HatC, HrC⟩
  · isplitr; · iexact HR
    isplitl [HoC]; · iexact HoC
    iexact HzC
  imodintro
  isplitl [Hb]; · iexact Hb
  isplitl [Hr]; · iexact Hr
  isplitl [Ht]; · iexact Ht
  isplitl [Hcr]; · iexact Hcr
  isplitl [HatL HrL HtL]
  · isplitl [HatL]; · iexact HatL
    isplitl [HrL]; · iexact HrL
    iexact HtL
  isplitl [HatC HrC]
  · isplitl [HatC]; · iexact HatC
    iexact HrC
  isplitl [Hr0] <;> iassumption

end Open

omit [FloatOps F] in
/-- The counters the all-gather scopes; -/
theorem own0_eq (c : Dev nD) : (Pipeline.ownSems0 osem0 c : sProp 𝕄) = own0 c := by
  unfold Pipeline.ownSems0 own0
  rw [BI.bigSep_univ_sum, sep_split]; rfl
omit [FloatOps F] in
/-- the reduce-scatter's. -/
theorem own1_eq (c : Dev nD) : (Pipeline.ownSems0 osem1 c : sProp 𝕄) = own1 c := by
  unfold Pipeline.ownSems0 own1
  rw [BI.bigSep_univ_sum, BI.bigSep_univ_sum, BI.bigSep_fin_two]
  unfold rsDone
  rw [sep_split]; rfl

/-! ## The bodies' obligations -/

section Bodies

variable (m : (ℓ : Loc nD τ sig) → Buf (Elt F) ℓ)

theorem owesAt_intro {cfg : Cfg sig Λ₀} {c : Dev nD} (dat : Dat τ (Elt F) ℕ ℕ UU ℕ cfg c) (t : Fin (cfg.N + 1))
    (O : CellTallies nD τ sig ℕ) (h0 : dat.owed t = O) (W : Waits sig ℕ) (hr : dat.recorded t = Set.univ) :
    (owes (c : Thread nD τ) O W : sProp 𝕄) ⊢ (dat.owesAt 0 t : sProp 𝕄) := by
  unfold Dat.owesAt Pipeline.owesWithin Dat.bound; rw [h0, hr]
  iintro HO; iexists W; isplitr; · ipureintro; exact fun _ _ => Or.inl trivial
  iexact HO
theorem owesAt_elim {cfg : Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ iprop(∃ W, owes (c : Thread nD τ) O W) := by
  unfold Dat.owesAt Pipeline.owesWithin; rw [h0]
  iintro ⟨%W, -, HO⟩; iexists W; iexact HO

/-- A staging buffer at contents equal to `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]
omit [FloatOps F] in
theorem stg_elim (c : Dev nD) (b : Ref sig .tc) (X : b.ty.Contents (Elt F)) : (stg c b X : sProp 𝕄) ⊢ (((c : Thread nD τ).loc b) ↦{fullShare} X) := by
  unfold stg
  iintro ⟨%f, %hf, H⟩; subst hf; iexact H
omit [FloatOps F] in
theorem stg_intro (c : Dev nD) (b : Ref sig .tc) (X : b.ty.Contents (Elt F)) : (((c : Thread nD τ).loc b) ↦{fullShare} X : sProp 𝕄) ⊢ stg c b X := by
  unfold stg
  iintro H; iexists _; isplitr; · (ipureintro; rfl)
  iexact H

theorem owed0_zero (c : Dev nD) (t : Fin (cfg0.N + 1)) (h : t.val = 0) : (dat0 m c).owed t = owed allDue c := if_pos h
theorem owed0_last (c : Dev nD) (t : Fin (cfg0.N + 1)) (h : ¬ t.val = 0) : (dat0 m c).owed t = owed rsAll c := if_neg h
theorem owed1_zero (c : Dev nD) (t : Fin (cfg1.N + 1)) (h : t.val = 0) : (dat1 m c).owed t = owed rsAll c := if_pos h
theorem owed1_last (c : Dev nD) (t : Fin (cfg1.N + 1)) (h : ¬ t.val = 0) : (dat1 m c).owed t = owed [] c := if_neg h
theorem Φ0_zero (c : Dev nD) (t : Fin (cfg0.N + 1)) (h : t.val = 0) : (dat0 m c).Φ t = iprop(rest0 c ∗ (∃ r, prngReg c r) ∗ Xk0 m c) := if_pos h
theorem Φ0_last (c : Dev nD) (t : Fin (cfg0.N + 1)) (h : ¬ t.val = 0) : (dat0 m c).Φ t = iprop(rest0 c ∗ (∃ r, prngReg c r) ∗ own0 c ∗ Tk1 m c) := if_neg h
theorem Φ1_zero (c : Dev nD) (t : Fin (cfg1.N + 1)) (h : t.val = 0) : (dat1 m c).Φ t = iprop(rest1 c ∗ (∃ r, prngReg c r) ∗ pAll (PP m) c ∗ Xk1 m c) := if_pos h
theorem Φ1_last (c : Dev nD) (t : Fin (cfg1.N + 1)) (h : ¬ t.val = 0) : (dat1 m c).Φ t = iprop(rest1 c ∗ (∃ r, prngReg c r) ∗ pAll (PP m) c ∗ own1 c ∗ Tk2 c) := if_neg h
theorem t0_succ : ¬ (t0_0.succ : Fin (cfg0.N + 1)).val = 0 := Nat.succ_ne_zero _
theorem t1_succ : ¬ (t1_0.succ : Fin (cfg1.N + 1)).val = 0 := Nat.succ_ne_zero _

/-- The all-gather's run, in the pipeline's terms. -/
theorem run0 (c : Dev nD) :
    iprop((rest0 c ∗ (∃ r, prngReg c r) ∗ Xk0 m c) ∗ (dat0 m c).owesAt 0 t0_0.castSucc
        ∗ (∃ d, stg c cc0_stg0_0 ((dat0 m c).before (0 : Fin 2) t0_0 d)) ∗ (∃ d, stg c cc0_stg1_0 ((dat0 m c).before (1 : Fin 2) t0_0 d)))
      ⊢ wp frame (wpE (defs₀ (F := F)) 𝒱₀ (c : Thread nD τ) none) Set.univ
        (cc0_body (F := F) xM (Memref.isWhole_whole _) oM (Memref.isWhole_whole _) cc0_scratch0 cc0_scratch1)
        (fun _ => iprop((rest0 c ∗ (∃ r, prngReg c r) ∗ own0 c ∗ Tk1 m c) ∗ (dat0 m c).owesAt 0 t0_0.succ
          ∗ stg c cc0_stg0_0 (xs m c : Vec F S512x1024 .bf16) ∗ stg c cc0_stg1_0 (gath (xs m) : Vec F S32x512x1024 .bf16))) := by
  rw [cc0_body_eq]
  unfold Xk0 Tk1
  iintro ⟨⟨Hrest, Hp, ⟨%κ, %σ, #HR, Hin, Hsd⟩⟩, HO, ⟨%d, Hx⟩, ⟨%d', Ho⟩⟩
  rw [before0]
  ihave Hx := (stg_elim c cc0_stg0_0 (xs m c)) $$ Hx
  ihave Ho := (stg_elim c cc0_stg1_0 _) $$ Ho
  ihave HO := (owesAt_elim (dat0 m c) _ _ (owed0_zero m c t0_0.castSucc rfl)) $$ HO
  icases HO with ⟨%W, HO⟩
  iapply (ag_body (xs m) (PP m) κ σ c W ((dat0 m c).before (1 : Fin 2) t0_0 d')) $$ [Hin HO Hx Ho]
  · isplitr; · iexact HR
    isplitl [Hin]; · iexact Hin
    isplitl [HO]; · iexact HO
    isplitl [Hx]; · iexact Hx
    iexact Ho
  unfold agOut
  iintro ⟨⟨Hb, Hz⟩, ⟨%W', HO⟩, Hx, Ho⟩
  isplitl [Hrest Hp Hb Hz Hsd]
  · isplitl [Hrest]; · iexact Hrest
    isplitl [Hp]; · iexact Hp
    isplitl [Hz]; · unfold own0; iexact Hz
    isplitl [Hb]; · iexact Hb
    iexists κ; iexists σ
    isplitr; · iexact HR
    iexact Hsd
  isplitl [HO]; · iapply (owesAt_intro (dat0 m c) t0_0.succ _ (owed0_last m c _ t0_succ) W' rfl); iexact HO
  isplitl [Hx]; · iapply (stg_intro c cc0_stg0_0 (xs m c)); iexact Hx
  iapply (stg_intro c cc0_stg1_0 (gath (xs m) : Vec F S32x512x1024 .bf16)); iexact Ho

set_option maxRecDepth 8000 in
theorem body0 (c : Dev nD) : BodyObligation (dat0 m c) (defs₀ (F := F)) 𝒱₀ 0 Set.univ := fun t => by
  obtain rfl := fin_N0 t
  rw [bigSep_W0, bigSep_W0]
  rw [Φ0_zero m c t0_0.castSucc rfl, Φ0_last m c t0_0.succ t0_succ]
  simp only [owns_stg]
  exact run0 m c

/-- The reduce-scatter's run, in the pipeline's terms. -/
theorem run1 (c : Dev nD) :
    iprop((rest1 c ∗ (∃ r, prngReg c r) ∗ pAll (PP m) c ∗ Xk1 m c) ∗ (dat1 m c).owesAt 0 t1_0.castSucc
        ∗ (∃ d, stg c cc1_stg0_0 ((dat1 m c).before (0 : Fin 1) t1_0 d)))
      ⊢ wp frame (wpE (defs₀ (F := F)) 𝒱₀ (c : Thread nD τ) none) Set.univ
        (cc1_body (F := F) pM (Memref.isWhole_whole _) (Memref.whole main_v2) (Memref.isWhole_whole _) rM (Memref.isWhole_whole _) sM (Memref.isWhole_whole _)
          vM (Memref.isWhole_whole _) bM (Memref.isWhole_whole _) cc1_scratch3 cc1_scratch4 cc1_scratch5 cc1_scratch6)
        (fun _ => iprop((rest1 c ∗ (∃ r, prngReg c r) ∗ pAll (PP m) c ∗ own1 c ∗ Tk2 c) ∗ (dat1 m c).owesAt 0 t1_0.succ
          ∗ stg c cc1_stg0_0 (acc (PP m) 31 c : Vec F S512x1024 .f32))) := by
  rw [cc1_body_eq]
  unfold Xk1 Tk2 rest1
  iintro ⟨⟨⟨Hr0, Hr1, ⟨%fs, Hs⟩, ⟨%fv, Hv⟩, ⟨%fb, Hb⟩⟩, Hp, HP, Hz0, ⟨%κ, %σ, #HR, Hin⟩⟩, HO, ⟨%d, Hr⟩⟩
  ihave Hr := (stg_elim c cc1_stg0_0 _) $$ Hr
  ihave HO := (owesAt_elim (dat1 m c) _ _ (owed1_zero m c t1_0.castSucc rfl)) $$ HO
  icases HO with ⟨%W, HO⟩
  iapply (rs_body (xs m) (PP m) κ σ c W ((dat1 m c).before (0 : Fin 1) t1_0 d) fb fs fv) $$ [Hin HO Hr Hs Hv Hb HP]
  · isplitr; · iexact HR
    isplitl [Hin]; · iexact Hin
    isplitl [HO]; · iexact HO
    isplitl [HP]; · iexact HP
    isplitl [Hr]; · iexact Hr
    isplitl [Hs]; · iexact Hs
    isplitl [Hv]; · iexact Hv
    iexact Hb
  unfold rsOut
  iintro ⟨⟨Hz1, Hd, HzL, HzC⟩, ⟨%W', HO⟩, HP, Hr, ⟨%fs', Hs⟩, ⟨%fv', Hv⟩, ⟨%fb', Hb⟩⟩
  isplitr [HO Hr]
  · isplitl [Hr0 Hr1 Hs Hv Hb]
    · isplitl [Hr0]; · iexact Hr0
      isplitl [Hr1]; · iexact Hr1
      isplitl [Hs]; · iexists fs'; iexact Hs
      isplitl [Hv]; · iexists fv'; iexact Hv
      iexists fb'; iexact Hb
    isplitl [Hp]; · iexact Hp
    isplitl [HP]; · iexact HP
    isplitl [Hd HzL HzC]
    · unfold own1
      isplitl [Hd]; · iexact Hd
      isplitl [HzL] <;> iassumption
    isplitl [Hz0] <;> iassumption
  isplitl [HO]; · iapply (owesAt_intro (dat1 m c) t1_0.succ _ (owed1_last m c _ t1_succ) W' rfl); iexact HO
  iapply (stg_intro c cc1_stg0_0 (acc (PP m) 31 c : Vec F S512x1024 .f32)); iexact Hr

set_option maxRecDepth 60000 in
theorem body1 (c : Dev nD) : BodyObligation (dat1 m c) (defs₀ (F := F)) 𝒱₀ 0 Set.univ := fun t => by
  obtain rfl := fin_N1 t
  rw [bigSep_W1, bigSep_W1]
  rw [Φ1_zero m c t1_0.castSucc rfl, Φ1_last m c t1_0.succ t1_succ]
  simp only [owns_stg]
  exact run1 m c

end Bodies

end Cert.K
-- ==== Proof.Recs.lean ====
/-
  The two calls as segments of @main's run.
-/
module

public import proofs.«01_k».proof.Proof.Regs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

/-! ## The calls' own semaphores -/

theorem scoped_osem : ∀ y : Ky0 ⊕ Ky1, (osem y).isScoped .tc = true
  | .inl (.inl h) => by revert h; decide
  | .inl (.inr h) => by revert h; decide
  | .inr (.inl (.inl h)) => by revert h; decide
  | .inr (.inl (.inr h)) => by revert h; decide
  | .inr (.inr 0) => by decide
  | .inr (.inr 1) => by decide

theorem kd_stg0 : ∀ (w : Fin 2) (s : Fin (spec0 w).nbuf), unK (kd (.dma ((spec0 w).sem s))) = none := by decide
theorem kd_stg1 : ∀ (w : Fin 1) (s : Fin (spec1 w).nbuf), unK (kd (.dma ((spec1 w).sem s))) = none := by decide

theorem own_sems0 : Pipeline.OwnSemFacts spec0 osem0 where
  isScoped y := scoped_osem (.inl y)
  inj y y' e := Sum.inl.inj (osem_injective (a₁ := .inl y) (a₂ := .inl y') e)
  disj y w s e := Option.some_ne_none (Sum.inl y : Ky0 ⊕ Ky1) ((unK_osem (.inl y)).symm.trans ((congrArg (fun s => unK (kd s)) e).trans (kd_stg0 w s)))
theorem own_sems1 : Pipeline.OwnSemFacts spec1 osem1 where
  isScoped y := scoped_osem (.inr y)
  inj y y' e := Sum.inr.inj (osem_injective (a₁ := .inr y) (a₂ := .inr y') e)
  disj y w s e := Option.some_ne_none (Sum.inr y : Ky0 ⊕ Ky1) ((unK_osem (.inr y)).symm.trans ((congrArg (fun s => unK (kd s)) e).trans (kd_stg1 w s)))

/-! ## Dues -/

/-- The all-gather's last `n` hops' dues alone; -/
def agOwn : ℕ → List Due
  | 0 => []
  | n + 1 => dRcv0 (hop n) :: agOwn n
/-- all of its dues. -/
def agAll : List Due := dBar0 false :: dBar0 true :: agOwn 31

theorem agDue_eq (n : ℕ) : agDue n = agOwn n ++ rsAll := by
  induction n with
  | zero => rfl
  | succ n ih => unfold agDue agOwn; rw [ih]; rfl
theorem allDue_eq : allDue = agAll ++ rsAll := by unfold allDue agAll; rw [agDue_eq]; rfl
theorem owed_all (c : Dev nD) : owed allDue c = owed rsAll c + owed agAll c := by rw [allDue_eq, owed_append, add_comm]

/-! ## The buffers -/

/-- The all-gather's two buffers, -/
abbrev arr0 : Finset (DevRef τ sig) := Pipeline.arrRefs (τ := τ) (pcfgs (F := F) 0).spec
abbrev arr1 : Finset (DevRef τ sig) := Pipeline.arrRefs (τ := τ) (pcfgs (F := F) 1).spec
/-- the reduce-scatter's operand. -/
abbrev hs1 : Finset (DevRef τ sig) := {Proc.devRef .tc main_v30}

theorem uc_mem (b : Ref sig .tc) (h : ¬ (Proc.devRef (τ := τ) .tc b).isScoped = true) : Proc.devRef .tc b ∈ Pipeline.ucRefs τ sig :=
  Finset.mem_filter.mpr ⟨StableHlo.devRef_mem_tcRefs b, h⟩
omit [FloatOps F] in
theorem arr0_sub : (arr0 (F := F)) ⊆ Pipeline.ucRefs τ sig := by
  intro b hb
  obtain ⟨r, hr, rfl⟩ := Finset.mem_map.mp hb
  obtain ⟨w, -, rfl⟩ := Finset.mem_image.mp hr
  fin_cases w
  · exact uc_mem main_v1 (by decide)
  · exact uc_mem main_v2 (by decide)
omit [FloatOps F] in
theorem arr1_sub : (arr1 (F := F)) ⊆ Pipeline.ucRefs τ sig := by
  intro b hb
  obtain ⟨r, hr, rfl⟩ := Finset.mem_map.mp hb
  obtain ⟨w, -, rfl⟩ := Finset.mem_image.mp hr
  fin_cases w
  exact uc_mem main_v31 (by decide)
omit [FloatOps F] in
theorem v2_mem : Proc.devRef (τ := τ) .tc main_v2 ∈ (arr0 (F := F)) :=
  Finset.mem_map.mpr ⟨main_v2, Finset.mem_image.mpr ⟨(1 : Fin 2), Finset.mem_univ _, rfl⟩, rfl⟩
omit [FloatOps F] in
theorem v31_mem : Proc.devRef (τ := τ) .tc main_v31 ∈ (arr1 (F := F)) :=
  Finset.mem_map.mpr ⟨main_v31, Finset.mem_image.mpr ⟨(0 : Fin 1), Finset.mem_univ _, rfl⟩, rfl⟩
omit [FloatOps F] in
theorem hs1_sub : hs1 ⊆ Pipeline.ucRefs τ sig \ (arr1 (F := F)) := by
  intro b hb
  rw [Finset.mem_singleton.mp hb]
  refine Finset.mem_sdiff.mpr ⟨uc_mem main_v30 (by decide), fun h => ?_⟩
  obtain ⟨r, hr, e⟩ := Finset.mem_map.mp h
  obtain ⟨w, -, rfl⟩ := Finset.mem_image.mp hr
  fin_cases w
  exact absurd (show main_v31 = main_v30 from Proc.devRef_injective _ e) (by decide)

theorem zero_mem (c : Dev nD) (s : SemLoc sig) : 0 ∈ LL (C c s) := SiteBlocks.mem_L' rfl (by decide)

section Regions

variable (m : (ℓ : Loc nD τ sig) → Buf (Elt F) ℓ)

/-- The thread's state besides its buffers, before, between and after the calls. -/
def E : Fin 3 → Dev nD → sProp 𝕄
  | 0, c => iprop((∃ r, prngReg c r) ∗ Tk0 m c ∗ ∃ W, owes (c : Thread nD τ) (owed rsAll c + owed agAll c) W)
  | 1, c => iprop((∃ r, prngReg c r) ∗ Tk1 m c ∗ ∃ W, owes (c : Thread nD τ) (owed rsAll c) W)
  | 2, c => iprop((∃ r, prngReg c r) ∗ Tk2 c ∗ ∃ W, owes (c : Thread nD τ) (0 : CellTallies nD τ sig ℕ) W)

theorem hopen0 (c : Dev nD) : iprop(Tk0 m c ∗ Pipeline.ownSems0 osem0 c ∗ levAts LL LV) ⊢ (|={Set.univ}=> Xk0 m c : sProp 𝕄) := by
  rw [own0_eq]; unfold Tk0 Xk0
  iintro ⟨⟨%κ, %σ, #HR, Ha, Hs⟩, Hz, -⟩
  imod (open0 (xs m) (PP m) κ σ c) $$ [Hz Ha] with Hi
  · isplitr; · iexact HR
    isplitl [Hz] <;> iassumption
  imodintro
  iexists κ; iexists σ
  isplitr; · iexact HR
  isplitl [Hi] <;> iassumption
theorem hopen1 (c : Dev nD) : iprop(Tk1 m c ∗ Pipeline.ownSems0 osem1 c ∗ levAts LL LV) ⊢ (|={Set.univ}=> Xk1 m c : sProp 𝕄) := by
  rw [own1_eq]; unfold Tk1 Xk1
  iintro ⟨⟨Hb, ⟨%κ, %σ, #HR, Hs⟩⟩, Hz, -⟩
  imod (open1 (xs m) (PP m) κ σ c) $$ [Hz Hs] with Hi
  · isplitr; · iexact HR
    isplitl [Hz] <;> iassumption
  imodintro
  isplitl [Hb]; · iexact Hb
  iexists κ; iexists σ
  isplitr; · iexact HR
  iexact Hi

omit [FloatOps F] in
theorem rest0_eq (c : Dev nD) : (Pipeline.scopedRest (Pipeline.pin (pcfgs (F := F)) adm 0).spec c : sProp 𝕄) = rest0 c := scopedRest0_eq c
omit [FloatOps F] in
theorem rest1_eq (c : Dev nD) : (Pipeline.scopedRest (Pipeline.pin (pcfgs (F := F)) adm 1).spec c : sProp 𝕄) = rest1 c := scopedRest1_eq c

omit [FloatOps F] in
theorem held_hs1 (c : Dev nD) (W : Valuation τ sig (Elt F)) (P : Dev nD → Vec F S32x512x1024 .f32) (h : W (Proc.devRef .tc main_v30) = P c) :
    (StableHlo.held (c.tc : Thread nD τ) hs1 W : sProp 𝕄) = pAll P c := by
  unfold StableHlo.held pAll; rw [bigSep_singleton, h]

theorem hin0 (c : Dev nD) : iprop(Pipeline.scopedRest (Pipeline.pin (pcfgs (F := F)) adm 0).spec c ∗ (∃ r, prngReg c r)
    ∗ StableHlo.held (c.tc : Thread nD τ) ∅ (V1 m c) ∗ Xk0 m c) ⊢ (pdats m 0 c).Φ 0 := by
  rw [show (pdats m 0 c).Φ 0 = _ from Φ0_zero m c 0 rfl, rest0_eq]
  iintro ⟨Hr, Hp, -, HX⟩
  isplitl [Hr]; · iexact Hr
  isplitl [Hp] <;> iassumption
theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (U2 m c) ∗ Pipeline.ownSems0 osem0 c ∗ Tk1 m c) := by
  rw [show (pdats m 0 c).Φ (Fin.last (Pipeline.pin (pcfgs (F := F)) adm 0).N) = _ from Φ0_last m c (Fin.last cfg0.N) (by decide), rest0_eq, own0_eq,
    show (StableHlo.held (c.tc : Thread nD τ) ∅ (U2 m c) : sProp 𝕄) = iprop(emp) from BI.bigSep_empty]
  iintro ⟨Hr, Hp, Hz, HX⟩
  isplitl [Hr]; · iexact Hr
  isplitl [Hp]; · iexact Hp
  isplitr; · iempintro
  isplitl [Hz] <;> iassumption
theorem hin1 (c : Dev nD) : iprop(Pipeline.scopedRest (Pipeline.pin (pcfgs (F := F)) adm 1).spec c ∗ (∃ r, prngReg c r)
    ∗ StableHlo.held (c.tc : Thread nD τ) hs1 (U3 m c) ∗ Xk1 m c) ⊢ (pdats m 1 c).Φ 0 := by
  rw [show (pdats m 1 c).Φ 0 = _ from Φ1_zero m c 0 rfl, rest1_eq, held_hs1 c (U3 m c) (PP m) rfl]
theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) hs1 (U4 m c) ∗ Pipeline.ownSems0 osem1 c ∗ Tk2 c) := by
  rw [show (pdats m 1 c).Φ (Fin.last (Pipeline.pin (pcfgs (F := F)) adm 1).N) = _ from Φ1_last m c (Fin.last cfg1.N) (by decide), rest1_eq, own1_eq,
    held_hs1 c (U4 m c) (PP m) (U4_of m c _ (by decide))]

theorem cut0 (c : Dev nD) (t : Fin ((Pipeline.pin (pcfgs (F := F)) adm 0).N + 1)) (g : GSem nD τ sig) (i : ℕ) (h : 0 < (pdats m 0 c).owed t g i) :
    i ∈ LL g ∧ 0 < LV g i := by
  have key : ∀ l : List Due, (∀ x ∈ l, 1 ≤ x.i ∧ x.i < NL) → 0 < owed l c g i → i ∈ LL g ∧ 0 < LV g i := fun l hl hk => by
    obtain ⟨hg, x, hx, rfl⟩ := owed_pos hk
    exact ⟨SiteBlocks.mem_L' hg (hl x hx).2, (hl x hx).1⟩
  by_cases h0 : t.val = 0
  · rw [show (pdats m 0 c).owed t = _ from owed0_zero m c t h0] at h
    exact key _ allDue_above h
  · rw [show (pdats m 0 c).owed t = _ from owed0_last m c t h0] at h
    exact key _ (fun x hx => by have := rsAll_above x hx; omega) h
theorem cut1 (c : Dev nD) (t : Fin ((Pipeline.pin (pcfgs (F := F)) adm 1).N + 1)) (g : GSem nD τ sig) (i : ℕ) (h : 0 < (pdats m 1 c).owed t g i) :
    i ∈ LL g ∧ 0 < LV g i := by
  by_cases h0 : t.val = 0
  · rw [show (pdats m 1 c).owed t = _ from owed1_zero m c t h0] at h
    obtain ⟨hg, x, hx, rfl⟩ := owed_pos h
    have := rsAll_above x hx
    exact ⟨SiteBlocks.mem_L' hg this.2, show 0 < x.i by omega⟩
  · rw [show (pdats m 1 c).owed t = _ from owed1_last m c t h0] at h
    obtain ⟨-, x, hx, -⟩ := owed_pos h
    exact absurd hx List.not_mem_nil

local notation "ℝ𝕊" => Pipeline.RegionSeg (pcfgs (F := F)) adm (pdats m) 0 defs₀ 𝒱₀ LL LV

set_option backward.isDefEq.respectTransparency.types false in
/-- The all-gather. -/
def reg0 : ℝ𝕊 0 :=
  Pipeline.RegionSeg.ofTalk (pcfgs (F := F)) adm (pdats m) 0 defs₀ 𝒱₀ LL LV 0 osem0 own_sems0
    ∅ (Pipeline.ucRefs τ sig \ (arr0 (F := F))) (Finset.empty_subset _) launch0.toP rfl (fun c => (body0 m c).loose)
    (fun c => owed rsAll c) (fun c => owed agAll c) (fun c => (owed0_zero m c 0 rfl).trans (owed_all c)) (fun c => owed0_last m c (Fin.last cfg0.N) (by decide))
    (fun _ => rfl) (fun c w => by fin_cases w <;> rfl)
    (V1 m) (U2 m) (fun c b hb => U2_of m c b fun e => (Finset.mem_sdiff.mp (Finset.mem_sdiff.mp hb).1).2 (e ▸ v2_mem))
    (Tk0 m) (Tk1 m) (Xk0 m) (Tk1 m) (hopen0 m) (hin0 m) (hout0 m)
    (fun c => by iintro H; imodintro; iexact H)
    (fun _ => 0)
    ⟨fun c w s => zero_mem c _, fun _ w s => le_refl _, fun c t g i h => cut0 m c t g i h⟩
    (fun _ => iprop(emp))
    (fun c w => by fin_cases w <;> rfl)
    (fun c w => by
      fin_cases w
      · exact (arr0_x m c cfg0.N).trans (U2_of m c _ (by decide)).symm
      · exact (arr0_o m c).trans (U2_v2 m c).symm)

set_option backward.isDefEq.respectTransparency.types false in
/-- The reduce-scatter. -/
def reg1 : ℝ𝕊 1 :=
  Pipeline.RegionSeg.ofTalk (pcfgs (F := F)) adm (pdats m) 0 defs₀ 𝒱₀ LL LV 1 osem1 own_sems1
    hs1 (Pipeline.ucRefs τ sig \ (arr1 (F := F))) hs1_sub launch1.toP rfl (fun c => (body1 m c).loose)
    (fun _ => 0) (fun c => owed rsAll c) (fun c => (owed1_zero m c 0 rfl).trans (zero_add _).symm) (fun c => owed1_last m c (Fin.last cfg1.N) (by decide))
    (fun _ => rfl) (fun c w => by fin_cases w; rfl)
    (U3 m) (U4 m) (fun c b hb => U4_of m c b fun e => (Finset.mem_sdiff.mp (Finset.mem_sdiff.mp hb).1).2 (e ▸ v31_mem))
    (Tk1 m) (fun c => Tk2 c) (Xk1 m) (fun c => Tk2 c) (hopen1 m) (hin1 m) (hout1 m)
    (fun c => by iintro H; imodintro; iexact H)
    (fun _ => 0)
    ⟨fun c w s => zero_mem c _, fun _ w s => le_refl _, fun c t g i h => cut1 m c t g i h⟩
    (fun _ => iprop(emp))
    (fun c w => by fin_cases w; rfl)
    (fun c w => by fin_cases w; exact (arr1_r m c).trans (U4_v31 m c).symm)

/-- The state around a call, regrouped. -/
theorem regroup (c : Dev nD) (A : Finset (DevRef τ sig)) (hA : A ⊆ Pipeline.ucRefs τ sig) (W : Valuation τ sig (Elt F)) (R T O : sProp 𝕄) :
    iprop(StableHlo.held (c.tc : Thread nD τ) (Pipeline.ucRefs τ sig) W ∗ R ∗ T ∗ O)
      ⊣⊢ iprop(StableHlo.held (c.tc : Thread nD τ) A W ∗ R ∗ (StableHlo.held (c.tc : Thread nD τ) (Pipeline.ucRefs τ sig \ A) W ∗ emp) ∗ T ∗ O) := by
  rw [StableHlo.held_sub_split (c.tc : Thread nD τ) hA W]
  constructor
  · iintro ⟨⟨HA, HS⟩, HR, HT, HO⟩
    isplitl [HA]; · iexact HA
    isplitl [HR]; · iexact HR
    isplitl [HS]
    · isplitl [HS]; · iexact HS
      iempintro
    isplitl [HT] <;> iassumption
  · iintro ⟨HA, HR, ⟨HS, -⟩, HT, HO⟩
    isplitl [HA HS]; · isplitl [HA] <;> iassumption
    isplitl [HR]; · iexact HR
    isplitl [HT] <;> iassumption

theorem reg0_pre (c : Dev nD) : iprop(StableHlo.held (c : Thread nD τ) (Pipeline.ucRefs τ sig) (V1 m c) ∗ E m 0 c) ⊢ (reg0 m).pre c :=
  (regroup c (arr0 (F := F)) arr0_sub (V1 m c) _ _ _).1
theorem reg0_post (c : Dev nD) : (reg0 m).post c ⊢ iprop(StableHlo.held (c : Thread nD τ) (Pipeline.ucRefs τ sig) (V2 m (outs m) c) ∗ E m 1 c) := by
  rw [V2_eq]; exact (regroup c (arr0 (F := F)) arr0_sub (U2 m c) _ _ _).2
theorem reg1_pre (c : Dev nD) : iprop(StableHlo.held (c : Thread nD τ) (Pipeline.ucRefs τ sig) (V3 m (outs m) c) ∗ E m 1 c) ⊢ (reg1 m).pre c := by
  rw [V3_eq]
  show _ ⊢ iprop(StableHlo.held (c.tc : Thread nD τ) (arr1 (F := F)) (U3 m c) ∗ (∃ r, prngReg c r)
    ∗ (StableHlo.held (c.tc : Thread nD τ) (Pipeline.ucRefs τ sig \ (arr1 (F := F))) (U3 m c) ∗ emp) ∗ Tk1 m c ∗ ∃ Wd, owes (c : Thread nD τ) (0 + owed rsAll c) Wd)
  rw [zero_add]
  exact (regroup c (arr1 (F := F)) arr1_sub (U3 m c) _ _ _).1
theorem reg1_post (c : Dev nD) : (reg1 m).post c ⊢ iprop(StableHlo.held (c : Thread nD τ) (Pipeline.ucRefs τ sig) (V4 m (outs m) c) ∗ E m 2 c) := by
  rw [V4_eq]; exact (regroup c (arr1 (F := F)) arr1_sub (U4 m c) _ _ _).2

end Regions

end Cert.K
-- ==== Proof.Deal.lean ====
/-
  Dealing the launch: the tokens of both rings and the credits, to the devices that use them.
-/
module

public import proofs.«01_k».proof.Proof.Recs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

omit [FloatOps F] in
theorem sep_zip {I : Type} [Fintype I] (Φ Ψ : I → sProp 𝕄) : iprop(bigSep Finset.univ Φ ∗ bigSep Finset.univ Ψ) ⊢ bigSep Finset.univ fun i => iprop(Φ i ∗ Ψ i) :=
  Entails.of_eq (sep_split Finset.univ Φ Ψ).symm
omit [FloatOps F] in
theorem sep_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ
omit [FloatOps F] in
theorem sep_two (Φ : Fin 2 → sProp 𝕄) : bigSep Finset.univ Φ = iprop(Φ 0 ∗ Φ 1) := BI.bigSep_fin_two Φ
omit [FloatOps F] in
/-- A family over the devices, each taking its right neighbour's, -/
theorem around (Φ : Dev nD → sProp 𝕄) : bigSep Finset.univ Φ ⊢ bigSep Finset.univ fun c => Φ (nxt c) := Entails.of_eq (BI.bigSep_univ_equiv ring Φ)
omit [FloatOps F] in
/-- or its left neighbour's. -/
theorem around' (Φ : Dev nD → sProp 𝕄) : bigSep Finset.univ Φ ⊢ bigSep Finset.univ fun c => Φ (prv c) := Entails.of_eq (BI.bigSep_univ_equiv ring.symm Φ)

/-! ## The duties' tokens -/

/-- A device's duties: two at each barrier, six a hop, the first fetch. -/
abbrev Dk : Type := (Fin 2 × Fin 2) ⊕ ((Fin 31 × Fin 6) ⊕ Unit)
def dk : Dk → SemLoc sig × ℕ × ℕ
  | .inl (b, d) => (bsem b, 0, d.val)
  | .inr (.inl (h, 0)) => (sSnd0 h, 0, 0)
  | .inr (.inl (h, 1)) => (sRcv0 h, 0, 0)
  | .inr (.inl (h, 2)) => (sSnd1 h, 0, 0)
  | .inr (.inl (h, 3)) => (sRcv1 h, 0, 0)
  | .inr (.inl (h, 4)) => (sLoc, h.val + 1, 0)
  | .inr (.inl (h, 5)) => (sCr, 0, h.val)
  | .inr (.inr _) => (sLoc, 0, 0)
/-- The duty of a purpose. -/
def unDk : Kd → ℕ → ℕ → Option Dk
  | .bar0, _, d => some (.inl (0, Fin.ofNat 2 d))
  | .bar1, _, d => some (.inl (1, Fin.ofNat 2 d))
  | .snd0 h, _, _ => some (.inr (.inl (h, 0)))
  | .rcv0 h, _, _ => some (.inr (.inl (h, 1)))
  | .snd1 h, _, _ => some (.inr (.inl (h, 2)))
  | .rcv1 h, _, _ => some (.inr (.inl (h, 3)))
  | .loc, 0, _ => some (.inr (.inr ()))
  | .loc, r + 1, _ => some (.inr (.inl (Fin.ofNat 31 r, 4)))
  | .cr, _, d => some (.inr (.inl (Fin.ofNat 31 d, 5)))
  | .other, _, _ => none
theorem ofNat_val (n : ℕ) [NeZero n] (i : Fin n) : Fin.ofNat n i.val = i := Fin.ext (Nat.mod_eq_of_lt i.isLt)
theorem unDk_dk : ∀ x : Dk, unDk (kd (dk x).1) (dk x).2.1 (dk x).2.2 = some x
  | .inl (0, d) => by show unDk (kd sBar0) 0 d.val = _; rw [kd_bar0]; exact congrArg (fun d => some (Sum.inl ((0 : Fin 2), d))) (ofNat_val 2 d)
  | .inl (1, d) => by show unDk (kd sBar1) 0 d.val = _; rw [kd_bar1]; exact congrArg (fun d => some (Sum.inl ((1 : Fin 2), d))) (ofNat_val 2 d)
  | .inr (.inl (h, 0)) => congrArg (fun k => unDk k 0 0) (kd_snd0 h)
  | .inr (.inl (h, 1)) => congrArg (fun k => unDk k 0 0) (kd_rcv0 h)
  | .inr (.inl (h, 2)) => congrArg (fun k => unDk k 0 0) (kd_snd1 h)
  | .inr (.inl (h, 3)) => congrArg (fun k => unDk k 0 0) (kd_rcv1 h)
  | .inr (.inl (h, 4)) => by show unDk (kd sLoc) (h.val + 1) 0 = _; rw [kd_loc]; exact congrArg (fun h => some (Sum.inr (Sum.inl (h, (4 : Fin 6))))) (ofNat_val 31 h)
  | .inr (.inl (h, 5)) => by show unDk (kd sCr) 0 h.val = _; rw [kd_cr]; exact congrArg (fun h => some (Sum.inr (Sum.inl (h, (5 : Fin 6))))) (ofNat_val 31 h)
  | .inr (.inr ()) => congrArg (fun k => unDk k 0 0) kd_loc
theorem dk_injective : Function.Injective dk := fun x x' e =>
  Option.some.inj ((unDk_dk x).symm.trans ((congrArg (fun p : SemLoc sig × ℕ × ℕ => unDk (kd p.1) p.2.1 p.2.2) e).trans (unDk_dk x')))

/-- All devices'. -/
def tokEmb : Dev nD × Dk ↪ GSem nD τ sig × ℕ × ℕ :=
  ⟨fun p => (C p.1 (dk p.2).1, (dk p.2).2), fun p p' h => Prod.ext (congrArg (fun t : GSem nD τ sig × ℕ × ℕ => t.1.1.1) h)
    (dk_injective (Prod.ext (congrArg (fun t : GSem nD τ sig × ℕ × ℕ => t.1.2) h) (congrArg (fun t : GSem nD τ sig × ℕ × ℕ => t.2) h)))⟩
def toks : Finset (GSem nD τ sig × ℕ × ℕ) := Finset.univ.map tokEmb

abbrev tk (c : Dev nD) (s : SemLoc sig) (r d : ℕ) : sProp 𝕄 := dutyTok ER (C c s) r d

/-- Those a device pays itself; -/
def ownToks (c : Dev nD) : sProp 𝕄 :=
  iprop((bigSep Finset.univ fun h : Fin 31 => tk (F := F) c (sSnd0 h) 0 0) ∗ (bigSep Finset.univ fun h : Fin 31 => tk (F := F) c (sSnd1 h) 0 0)
    ∗ (bigSep Finset.univ fun h : Fin 31 => tk (F := F) c sLoc (h.val + 1) 0) ∗ tk c sLoc 0 0)
/-- those its left neighbour pays; -/
def leftToks (c : Dev nD) : sProp 𝕄 :=
  iprop(tk c sBar0 0 1 ∗ tk c sBar1 0 1 ∗ (bigSep Finset.univ fun h : Fin 31 => tk (F := F) c (sRcv0 h) 0 0)
    ∗ (bigSep Finset.univ fun h : Fin 31 => tk (F := F) c (sRcv1 h) 0 0))
/-- those its right neighbour pays. -/
def rightToks (c : Dev nD) : sProp 𝕄 :=
  iprop(tk c sBar0 0 0 ∗ tk c sBar1 0 0 ∗ (bigSep Finset.univ fun h : Fin 31 => tk (F := F) c sCr 0 h.val))

omit [FloatOps F] in
theorem sep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide), bigSep_insert (by decide),
    bigSep_insert (by decide), bigSep_insert (by decide), bigSep_singleton]
  rfl
omit [FloatOps F] in
theorem sep_unit (Φ : Unit → sProp 𝕄) : bigSep Finset.univ Φ = Φ () := bigSep_singleton

omit [FloatOps F] in
theorem toks_one (c : Dev nD) :
    (bigSep Finset.univ fun x : Dk => (tk (F := F) c (dk x).1 (dk x).2.1 (dk x).2.2)) ⊢ iprop(ownToks (F := F) c ∗ leftToks (F := F) c ∗ rightToks (F := F) c) := by
  rw [sep_sum, sep_sum, BI.bigSep_univ_prod, sep_two, sep_two, sep_two, BI.bigSep_univ_prod, sep_unit]
  rw [show (fun h : Fin 31 => bigSep Finset.univ fun k : Fin 6 => (tk (F := F) c (dk (.inr (.inl (h, k)))).1 (dk (.inr (.inl (h, k)))).2.1 (dk (.inr (.inl (h, k)))).2.2))
      = fun h : Fin 31 => iprop(tk c (sSnd0 h) 0 0 ∗ tk c (sRcv0 h) 0 0 ∗ tk c (sSnd1 h) 0 0 ∗ tk c (sRcv1 h) 0 0 ∗ tk c sLoc (h.val + 1) 0 ∗ tk c sCr 0 h.val)
    from funext fun h => sep_six _]
  rw [sep_split, sep_split, sep_split, sep_split, sep_split]
  unfold ownToks leftToks rightToks
  iintro ⟨⟨⟨H00, H01⟩, ⟨H10, H11⟩⟩, ⟨Hs0, Hr0, Hs1, Hr1, HL, HC⟩, HL0⟩
  isplitl [Hs0 Hs1 HL HL0]
  · isplitl [Hs0]; · iexact Hs0
    isplitl [Hs1]; · iexact Hs1
    isplitl [HL]; · iexact HL
    iexact HL0
  isplitl [H01 H11 Hr0 Hr1]
  · isplitl [H01]; · iexact H01
    isplitl [H11]; · iexact H11
    isplitl [Hr0] <;> iassumption
  isplitl [H00]; · iexact H00
  isplitl [H10]; · iexact H10
  iexact HC

/-! ## The rights to open, the barriers' positions, the slots' turns -/

def opens (c : Dev nD) : sProp 𝕄 :=
  iprop((bigSep Finset.univ fun h : Fin 31 => openTok (D := ℕ) ER (C c (sSnd0 h))) ∗ (bigSep Finset.univ fun h : Fin 31 => openTok (D := ℕ) ER (C c (sRcv0 h)))
    ∗ (bigSep Finset.univ fun h : Fin 31 => openTok (D := ℕ) ER (C c (sSnd1 h))) ∗ (bigSep Finset.univ fun h : Fin 31 => openTok (D := ℕ) ER (C c (sRcv1 h)))
    ∗ openTok (D := ℕ) ER (C c sLoc) ∗ openTok (D := ℕ) ER (C c sCr))
omit [FloatOps F] in
theorem opens_all : (bigSep ownCells fun g => (openTok (D := ℕ) ER g : sProp 𝕄)) ⊢ bigSep Finset.univ fun c : Dev nD => opens (F := F) c := by
  unfold ownCells; rw [BI.bigSep_map, BI.bigSep_univ_prod]
  refine sep_each _ fun c => ?_
  rw [sep_sum, sep_sum, sep_sum, sep_sum, sep_two]
  unfold opens
  iintro ⟨⟨H1, H2⟩, ⟨⟨H3, H4⟩, H5, H6⟩⟩
  isplitl [H1]; · iexact H1
  isplitl [H2]; · iexact H2
  isplitl [H3]; · iexact H3
  isplitl [H4]; · iexact H4
  isplitl [H5]; · iexact H5
  iexact H6

omit [FloatOps F] in
theorem bars_all (Φ : GSem nD τ sig → sProp 𝕄) : (bigSep barCells Φ) = bigSep Finset.univ fun c : Dev nD => iprop(Φ (C c sBar0) ∗ Φ (C c sBar1)) := by
  unfold barCells; rw [BI.bigSep_map, BI.bigSep_univ_prod]
  exact bigSep_congr fun c _ => sep_two _

omit [FloatOps F] in
theorem readers_all : (bigSep keys fun k => (readerAt ES k 0 : sProp 𝕄))
    ⊢ bigSep Finset.univ fun c : Dev nD => iprop(readerAt ES (c, (0 : Fin 2)) 0 ∗ readerAt ES (c, (1 : Fin 2)) 0) := by
  rw [BI.bigSep_univ_prod]
  exact sep_each _ fun c => Entails.of_eq (sep_two _)

/-- A device's slots' turns, hop by hop. -/
def turns (c : Dev nD) : sProp 𝕄 := bigSep Finset.univ fun h : Fin 31 => writeTok ES (c, par h.val) (h.val / 2 + 1)
def turnEmb : Dev nD × Fin 31 ↪ (Dev nD × Fin 2) × ℕ :=
  ⟨fun p => ((p.1, par p.2.val), p.2.val / 2), fun p p' e => by
    have e1 : p.1 = p'.1 := congrArg (fun t : (Dev nD × Fin 2) × ℕ => t.1.1) e
    have e2 : (par p.2.val).val = (par p'.2.val).val := congrArg (fun t : (Dev nD × Fin 2) × ℕ => t.1.2.val) e
    have e3 : p.2.val / 2 = p'.2.val / 2 := congrArg Prod.snd e
    have e4 : p.2.val % 2 = p'.2.val % 2 := e2
    exact Prod.ext e1 (Fin.ext (by omega))⟩
omit [FloatOps F] in
theorem turns_all : (bigSep (keys ×ˢ Finset.range 16) fun x => (writeTok ES x.1 (x.2 + 1) : sProp 𝕄)) ⊢ bigSep Finset.univ fun c : Dev nD => turns (F := F) c := by
  have hs : Finset.univ.map turnEmb ⊆ keys ×ˢ Finset.range 16 := fun x hx => by
    obtain ⟨p, -, rfl⟩ := Finset.mem_map.mp hx
    have := p.2.isLt
    exact Finset.mem_product.mpr ⟨Finset.mem_univ _, Finset.mem_range.mpr (show p.2.val / 2 < 16 by omega)⟩
  refine (BI.bigSep_subset hs).trans ?_
  rw [BI.bigSep_map, BI.bigSep_univ_prod]
  unfold turns
  exact sep_each _ fun c => BI.Entails.refl _

/-! ## The credits -/

omit [FloatOps F] in
theorem credit_cons (x : Due) (l : List Due) (c : Dev nD) :
    (cred (credit (x :: l) c) : sProp 𝕄) ⊢ iprop(cred (tallyAt (C c x.s) x.i x.n) ∗ cred (credit l c)) := (cred_add _ _).1
omit [FloatOps F] in
theorem credit_append (l l' : List Due) (c : Dev nD) :
    (cred (credit (l ++ l') c) : sProp 𝕄) ⊢ iprop(cred (credit l c) ∗ cred (credit l' c)) := by
  rw [show credit (l ++ l') c = credit l c + credit l' c from by unfold credit; rw [List.map_append, TalkSites.tallyL_append]]
  exact (cred_add _ _).1
omit [FloatOps F] in
theorem credit_ag (c : Dev nD) (n : ℕ) :
    (cred (credit (agOwn n) c) : sProp 𝕄) ⊢ lst (fun h => cred (tallyAt (C c (sRcv0 h)) (2 + h.val) N0)) n := by
  induction n with
  | zero => iintro -; iempintro
  | succ n ih => exact (credit_cons _ _ c).trans (BI.sep_mono (BI.Entails.refl _) ih)

/-- What the right neighbour grants after hop `h`. -/
def crOne (c : Dev nD) (h : Fin 31) : sProp 𝕄 := if h.val ≤ 28 then cred (tallyAt (C c sCr) (51 + 2 * h.val) 1) else iprop(emp)
omit [FloatOps F] in
theorem credit_rs (c : Dev nD) (n : ℕ) :
    (cred (credit (rsDue n) c) : sProp 𝕄) ⊢ iprop(lst (fun h => cred (tallyAt (C c (sRcv1 h)) (50 + 2 * h.val) N1)) n ∗ lst (fun h => crOne (F := F) c h) n) := by
  induction n with
  | zero => iintro -; isplitr <;> iempintro
  | succ n ih =>
    unfold rsDue
    have h1 : (cred (credit (if (hop n).val ≤ 28 then dCr (hop n).val :: rsDue n else rsDue n) c) : sProp 𝕄)
        ⊢ iprop(crOne (F := F) c (hop n) ∗ cred (credit (rsDue n) c)) := by
      unfold crOne
      by_cases hn : (hop n).val ≤ 28
      · rw [if_pos hn, if_pos hn]; exact credit_cons _ _ c
      · rw [if_neg hn, if_neg hn]; iintro H; isplitr; · iempintro
        iexact H
    refine (credit_cons _ _ c).trans ?_
    show _ ⊢ iprop((cred (tallyAt (C c (sRcv1 (hop n))) (50 + 2 * (hop n).val) N1) ∗ lst (fun h => cred (tallyAt (C c (sRcv1 h)) (50 + 2 * h.val) N1)) n)
      ∗ (crOne (F := F) c (hop n) ∗ lst (fun h => crOne (F := F) c h) n))
    iintro ⟨Hr, H⟩
    ihave H := h1 $$ H
    icases H with ⟨Hc, H⟩
    ihave H := ih $$ H
    icases H with ⟨HA, HB⟩
    isplitl [Hr HA]
    · isplitl [Hr]; · iexact Hr
      iexact HA
    isplitl [Hc]; · iexact Hc
    iexact HB

theorem back_two : ∀ h : Fin 31, 2 ≤ h.val → (h - 2).val = h.val - 2 := by decide
omit [FloatOps F] in
/-- The grants, each at the hop that waits for it. -/
theorem crs (c : Dev nD) : (bigSep Finset.univ fun h : Fin 31 => crOne (F := F) c h)
    ⊢ bigSep Finset.univ fun h : Fin 31 => (if 2 ≤ h.val then cred (tallyAt (C c sCr) (47 + 2 * h.val) 1) else iprop(emp) : sProp 𝕄) := by
  rw [BI.bigSep_univ_equiv (Equiv.subRight (2 : Fin 31)) (fun h : Fin 31 => crOne (F := F) c h)]
  refine sep_each _ fun h => ?_
  show crOne (F := F) c (h - 2) ⊢ _
  by_cases h2 : 2 ≤ h.val
  · have hv := back_two h h2
    have := h.isLt
    unfold crOne
    rw [if_pos (by omega), if_pos h2, show 51 + 2 * (h - 2).val = 47 + 2 * h.val by omega]
  · rw [if_neg h2]; iintro -; iempintro

/-- A device's credits. -/
def creds (c : Dev nD) : sProp 𝕄 :=
  iprop(cred (tallyAt (C c sBar0) 1 2) ∗ (bigSep Finset.univ fun h : Fin 31 => cred (tallyAt (C c (sRcv0 h)) (2 + h.val) N0))
    ∗ cred (tallyAt (C c sBar1) 40 2) ∗ (bigSep Finset.univ fun h : Fin 31 => cred (tallyAt (C c (sRcv1 h)) (50 + 2 * h.val) N1))
    ∗ bigSep Finset.univ fun h : Fin 31 => (if 2 ≤ h.val then cred (tallyAt (C c sCr) (47 + 2 * h.val) 1) else iprop(emp) : sProp 𝕄))
omit [FloatOps F] in
theorem join_two (c : Dev nD) (s : SemLoc sig) (i : ℕ) :
    (iprop(cred (tallyAt (C c s) i 1) ∗ cred (tallyAt (C c s) i 1)) : sProp 𝕄) ⊢ cred (tallyAt (C c s) i 2) := by
  have h := (cred_add (Val := Elt F) (Name := ℕ) (U := UU) (Lvl := ℕ) (tallyAt (C c s) i 1) (tallyAt (C c s) i 1)).2
  rw [tallyAt_add] at h; exact h
omit [FloatOps F] in
theorem creds_all (c : Dev nD) : (Pipeline.launchCred (fun d => owed allDue d) c : sProp 𝕄) ⊢ creds (F := F) c := by
  refine (launch_credit allDue c).trans ?_
  rw [allDue_eq]
  unfold agAll rsAll creds
  iintro H
  ihave H := (credit_append _ _ c) $$ H
  icases H with ⟨HA, HB⟩
  ihave HA := (credit_cons _ _ c) $$ HA
  icases HA with ⟨H1, HA⟩
  ihave HA := (credit_cons _ _ c) $$ HA
  icases HA with ⟨H2, HA⟩
  ihave HB := (credit_cons _ _ c) $$ HB
  icases HB with ⟨H3, HB⟩
  ihave HB := (credit_cons _ _ c) $$ HB
  icases HB with ⟨H4, HB⟩
  ihave HA := (credit_ag c 31) $$ HA
  ihave HB := (credit_rs c 31) $$ HB
  icases HB with ⟨HB, HC⟩
  ihave HA := (Entails.of_eq (lst_eq fun h : Fin 31 => (cred (tallyAt (C c (sRcv0 h)) (2 + h.val) N0) : sProp 𝕄))) $$ HA
  ihave HB := (Entails.of_eq (lst_eq fun h : Fin 31 => (cred (tallyAt (C c (sRcv1 h)) (50 + 2 * h.val) N1) : sProp 𝕄))) $$ HB
  ihave HC := (Entails.of_eq (lst_eq fun h : Fin 31 => crOne (F := F) c h)) $$ HC
  isplitl [H1 H2]
  · iapply (join_two c sBar0 1); isplitl [H1]; · iexact H1
    iexact H2
  isplitl [HA]; · iexact HA
  isplitl [H3 H4]
  · iapply (join_two c sBar1 40); isplitl [H3]; · iexact H3
    iexact H4
  isplitl [HB]; · iexact HB
  iapply (crs c); iexact HC

/-! ## A device's seeds -/

/-- Everything a device takes away. -/
def dealt (c : Dev nD) : sProp 𝕄 :=
  iprop((atPos (D := ℕ) ER (C c sBar0) 0 ∅ 0 ∗ atPos (D := ℕ) ER (C c sBar1) 0 ∅ 0) ∗ opens (F := F) c ∗ ownToks (F := F) c ∗ leftToks (F := F) (nxt c) ∗ rightToks (F := F) (prv c)
    ∗ turns (F := F) (nxt c) ∗ (readerAt ES (c, (0 : Fin 2)) 0 ∗ readerAt ES (c, (1 : Fin 2)) 0))

omit [FloatOps F] in
theorem seeds (c : Dev nD) : iprop(dealt (F := F) c ∗ creds (F := F) c) ⊢ iprop(agSeed (F := F) c ∗ rsSeed (F := F) c) := by
  unfold dealt creds opens ownToks leftToks rightToks turns agSeed rsSeed agSeedTok rsSeedTok crRes
  rw [sep_split, sep_split, sep_split, sep_split, sep_split, sep_split, sep_split, sep_split, sep_split, sep_split, sep_split]
  iintro ⟨⟨⟨Ha0, Ha1⟩, ⟨Hos0, Hor0, Hos1, Hor1, HoL, HoC⟩, ⟨Hs0, Hs1, HL, HL0⟩, ⟨Hn0, Hn1, Hr0, Hr1⟩, ⟨Hp0, Hp1, HC⟩, HW, HR⟩, ⟨Hc0, Hcr0, Hc1, Hcr1, Hcc⟩⟩
  isplitl [Ha0 Hc0 Hp0 Hn0 Hos0 Hor0 Hs0 Hr0 Hcr0]
  · isplitl [Ha0 Hc0 Hp0 Hn0]
    · isplitl [Ha0]; · iexact Ha0
      isplitl [Hc0]; · iexact Hc0
      isplitl [Hp0] <;> iassumption
    isplitl [Hos0]; · iexact Hos0
    isplitl [Hor0]; · iexact Hor0
    isplitl [Hs0]; · iexact Hs0
    isplitl [Hr0] <;> iassumption
  isplitl [Ha1 Hc1 Hp1 Hn1]
  · isplitl [Ha1]; · iexact Ha1
    isplitl [Hc1]; · iexact Hc1
    isplitl [Hp1] <;> iassumption
  isplitl [Hos1 Hor1 Hs1 Hr1 Hcr1 HL HW]
  · isplitl [Hos1]; · iexact Hos1
    isplitl [Hor1]; · iexact Hor1
    isplitl [Hs1]; · iexact Hs1
    isplitl [Hr1]; · iexact Hr1
    isplitl [Hcr1]; · iexact Hcr1
    isplitl [HL] <;> iassumption
  isplitl [HC Hcc]
  · isplitl [HC]
    · iapply (sep_each (F := F) Finset.univ (Φ := fun h : Fin 31 => tk (F := F) (prv c) sCr 0 h.val)
        (Ψ := fun h : Fin 31 => if h.val ≤ 28 then tk (F := F) (prv c) sCr 0 h.val else iprop(emp)) fun h => by
          by_cases hh : h.val ≤ 28
          · rw [if_pos hh]
          · rw [if_neg hh]; iintro -; iempintro)
      iexact HC
    iexact Hcc
  isplitl [HoL HL0]
  · isplitl [HoL] <;> iassumption
  isplitl [HoC]; · iexact HoC
  iexact HR

end Cert.K
-- ==== Proof.Run.lean ====
/-
  The launch and the run of @main on all devices.
-/
module

public import proofs.«01_k».proof.Proof.Deal

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Idealize.ShloMosaic.Pipeline (Dat Cfg BodyObligation cellOf)

variable {F : FTy → Type} [FloatOps F]

local notation "𝕄" => MT nD τ sig ℕ (Elt F) ℕ UU ℕ

section Init

variable (m : (ℓ : Loc nD τ sig) → Buf (Elt F) ℓ) (ρ : Dev nD → PrngReg)

/-- The launch element: the pipelines' part, the rings' rounds, the slots' turns. -/
def u₀ : UU :=
  (initOf (Pipeline.cells (Pipeline.pin (pcfgs (F := F)) adm) cellOf_inj) (Pipeline.launchToks (Pipeline.pin (pcfgs (F := F)) adm) cellOf_inj),
    (launchOf barCells ownCells toks, initSlots keys 16))

/-- What the rings' share of the launch element is worth, -/
def ringG : sProp 𝕄 := iprop(BI.own (ER (launchOf barCells ownCells toks)) ∗ BI.own (ES (initSlots keys 16)))
/-- kept by device 0 until it is dealt. -/
def G (c : Dev nD) : sProp 𝕄 := if c = 0 then ringG else iprop(emp)
omit [FloatOps F] in
theorem G_all : bigSep Finset.univ (G (F := F)) = ringG := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem unscoped_eq : ∀ s : SemLoc sig, s.isScoped .tc = false → s = sBar0 ∨ s = sBar1 := by decide
omit [FloatOps F] in
theorem unscopedSems0_eq (c : Dev nD) : (unscopedSems0 c : sProp 𝕄) = iprop(semVal (C c sBar0) 0 ∗ semVal (C c sBar1) 0) := by
  unfold unscopedSems0
  rw [show (Finset.univ.filter fun s : SemLoc sig => ¬ s.isScoped .tc) = {sBar0, sBar1} from by
      ext s
      simp only [Finset.mem_filter, Finset.mem_univ, true_and, Finset.mem_insert, Finset.mem_singleton, Bool.not_eq_true]
      refine ⟨unscoped_eq s, ?_⟩
      rintro (rfl | rfl) <;> decide, bigSep_insert (by decide), bigSep_singleton]
  rfl

/-- A core's launch holdings besides its buffers, barriers and the rings' share. -/
def held0 (c : Dev nD) : sProp 𝕄 := iprop((∃ r, prngReg c r) ∗ creds (F := F) c ∗ ∃ W, owes (c : Thread nD τ) (owed allDue c) W)

theorem core (c : Dev nD) :
    iprop(unscopedSems0 c ∗ owes (c : Thread nD τ) (owed allDue c) ∅ ∗ Pipeline.launchCred (fun d => owed allDue d) c ∗ prngReg c (ρ c) ∗ G c)
      ⊢ (iprop(held0 (F := F) c ∗ (semVal (C c sBar0) 0 ∗ semVal (C c sBar1) 0) ∗ G c) : sProp 𝕄) := by
  rw [unscopedSems0_eq]
  unfold held0
  iintro ⟨Hz, HO, Hc, Hp, HG⟩
  ihave Hc := (creds_all c) $$ Hc
  isplitl [HO Hc Hp]
  · isplitl [Hp]; · iexists (ρ c); iexact Hp
    isplitl [Hc]; · iexact Hc
    iexists ∅; iexact HO
  isplitl [Hz] <;> iassumption

theorem E0_intro (κ : GSem nD τ sig → ℕ) (σ : Dev nD × Fin 2 → ℕ) (c : Dev nD) :
    iprop(recs (xs m) (PP m) κ σ ∗ (held0 (F := F) c ∗ dealt (F := F) c)) ⊢ E m 0 c := by
  show _ ⊢ iprop((∃ r, prngReg c r) ∗ Tk0 m c ∗ ∃ W, owes (c : Thread nD τ) (owed rsAll c + owed agAll c) W)
  rw [← owed_all]
  unfold held0 Tk0
  iintro ⟨#HR, ⟨Hp, Hc, HO⟩, Hd⟩
  isplitl [Hp]; · iexact Hp
  isplitr [HO]
  · iexists κ; iexists σ
    isplitr; · iexact HR
    iapply (seeds c); isplitl [Hd] <;> iassumption
  iexact HO

theorem dealt_all :
    iprop((bigSep barCells fun g => (atPos ER g 0 ∅ 0 : sProp 𝕄)) ∗ (bigSep ownCells fun g => (openTok (D := ℕ) ER g : sProp 𝕄))
        ∗ (bigSep toks fun x => (dutyTok ER x.1 x.2.1 x.2.2 : sProp 𝕄)) ∗ (bigSep keys fun k => (readerAt ES k 0 : sProp 𝕄))
        ∗ bigSep (keys ×ˢ Finset.range 16) fun x => (writeTok ES x.1 (x.2 + 1) : sProp 𝕄))
      ⊢ bigSep Finset.univ fun c : Dev nD => dealt (F := F) c := by
  unfold dealt
  have ht : (bigSep toks fun x => (dutyTok ER x.1 x.2.1 x.2.2 : sProp 𝕄))
      ⊢ bigSep Finset.univ fun c : Dev nD => iprop(ownToks (F := F) c ∗ leftToks (F := F) c ∗ rightToks (F := F) c) := by
    unfold toks; rw [BI.bigSep_map, BI.bigSep_univ_prod]
    exact sep_each _ fun c => toks_one c
  rw [sep_split, sep_split, sep_split, sep_split, sep_split, sep_split, sep_split, bars_all]
  iintro ⟨Ha, Ho, Ht, Hr, Hw⟩
  ihave Ht := ht $$ Ht
  ihave Ht := (Entails.of_eq (sep_split (F := F) Finset.univ (fun c : Dev nD => ownToks (F := F) c) (fun c : Dev nD => iprop(leftToks (F := F) c ∗ rightToks (F := F) c)))) $$ Ht
  icases Ht with ⟨H1, Ht⟩
  ihave Ht := (Entails.of_eq (sep_split (F := F) Finset.univ (fun c : Dev nD => leftToks (F := F) c) (fun c : Dev nD => rightToks (F := F) c))) $$ Ht
  icases Ht with ⟨H2, H3⟩
  ihave H2 := (around (fun c : Dev nD => leftToks (F := F) c)) $$ H2
  ihave H3 := (around' (fun c : Dev nD => rightToks (F := F) c)) $$ H3
  ihave Hw := (turns_all (F := F)) $$ Hw
  ihave Hw := (around (fun c : Dev nD => turns (F := F) c)) $$ Hw
  ihave Ho := (opens_all (F := F)) $$ Ho
  ihave Hr := (readers_all (F := F)) $$ Hr
  ihave Ha := (Entails.of_eq (sep_split (F := F) Finset.univ (fun c : Dev nD => atPos (D := ℕ) ER (C c sBar0) 0 ∅ 0) (fun c : Dev nD => atPos (D := ℕ) ER (C c sBar1) 0 ∅ 0))) $$ Ha
  isplitl [Ha]; · iexact Ha
  isplitl [Ho]; · iexact Ho
  isplitl [H1]; · iexact H1
  isplitl [H2]; · iexact H2
  isplitl [H3]; · iexact H3
  isplitl [Hw]; · iexact Hw
  iexact Hr

/-- Everything dealt, on all devices at once. -/
theorem init0 :
    iprop((bigSep Finset.univ fun c : Dev nD => iprop(unscopedSems0 c ∗ owes (c : Thread nD τ) (owed allDue c) ∅
        ∗ Pipeline.launchCred (fun d => owed allDue d) c ∗ prngReg c (ρ c) ∗ G c)) ∗ levAts LL LV)
      ⊢ (|={Set.univ}=> bigSep Finset.univ (E m 0) : sProp 𝕄) := by
  iintro ⟨H, #HL⟩
  ihave H := (sep_each (F := F) Finset.univ (core (F := F) ρ)) $$ H
  ihave H := (Entails.of_eq (sep_split (F := F) Finset.univ (fun c : Dev nD => held0 (F := F) c)
    (fun c : Dev nD => iprop((semVal (C c sBar0) 0 ∗ semVal (C c sBar1) 0) ∗ G (F := F) c)))) $$ H
  icases H with ⟨Hh, H⟩
  ihave H := (Entails.of_eq (sep_split (F := F) Finset.univ (fun c : Dev nD => iprop(semVal (C c sBar0) 0 ∗ semVal (C c sBar1) 0)) (G (F := F)))) $$ H
  icases H with ⟨Hv, HG⟩
  ihave Hv := (Entails.of_eq (bars_all (F := F) fun g => semVal g 0).symm) $$ Hv
  ihave HG := (Entails.of_eq (G_all (F := F))) $$ HG
  unfold ringG
  icases HG with ⟨HG, HS⟩
  imod (Rounds.fund_launch ER (Rd (xs m) (PP m)) disjoint_cells (fun g _ h => h) toks) $$ [Hv HG] with ⟨%κ, -, #Hinv, #Hr, Hat, Hopen, Htok⟩
  · isplitl [Hv] <;> iassumption
  imod (Release.slots_init ES keys 16 (vSl (F := F))) $$ HS with ⟨%σ, -, #Hsl, Hrd, Hwr⟩
  imodintro
  iapply (bigSep_with_persistent (R := recs (xs m) (PP m) κ σ) (Φ := fun c => iprop(held0 (F := F) c ∗ dealt (F := F) c)) fun c _ => E0_intro m κ σ c)
  isplitr
  · unfold recs
    isplitr; · iexact Hinv
    isplitr; · iexact Hsl
    isplitr; · iexact Hr
    iexact HL
  iapply (sep_zip (F := F) (fun c : Dev nD => held0 (F := F) c) (fun c : Dev nD => dealt (F := F) c))
  isplitl [Hh]; · iexact Hh
  iapply (dealt_all (F := F))
  isplitl [Hat]; · iexact Hat
  isplitl [Hopen]; · iexact Hopen
  isplitl [Htok]; · iexact Htok
  isplitl [Hrd] <;> iassumption

/-- The launch as the kit asks for it. -/
theorem init :
    iprop((bigSep Finset.univ fun c : Dev nD => iprop(unscopedBufs c (fun b => m ((c.tc : Thread nD τ).loc b)) ∗ unscopedSems0 c
        ∗ owes (c.tc : Thread nD τ) (owed allDue c) ∅ ∗ Pipeline.launchCred (fun d => owed allDue d) c ∗ prngReg c (ρ c) ∗ G c)) ∗ levAts LL LV)
      ⊢ (|={Set.univ}=> bigSep Finset.univ fun c : Dev nD => iprop(StableHlo.held (c : Thread nD τ) (Pipeline.ucRefs τ sig) (V0 m c) ∗ E m 0 c) : sProp 𝕄) := by
  have hsplit : (bigSep Finset.univ fun c : Dev nD => iprop(unscopedBufs c (fun b => m ((c.tc : Thread nD τ).loc b)) ∗ unscopedSems0 c
        ∗ owes (c.tc : Thread nD τ) (owed allDue c) ∅ ∗ Pipeline.launchCred (fun d => owed allDue d) c ∗ prngReg c (ρ c) ∗ G c))
      ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (owed allDue c) ∅
          ∗ Pipeline.launchCred (fun d => owed allDue d) c ∗ prngReg c (ρ c) ∗ G c)) : sProp 𝕄) := by
    rw [← sep_split]
    exact sep_each _ fun c => by
      rw [← Pipeline.unscopedBufs_held (Ix := ℕ) (Name := ℕ) (U := UU) (Lvl := ℕ) c (V0 m c)]
  iintro ⟨H, HL⟩
  ihave H := hsplit $$ H
  icases H with ⟨Hh, Hr⟩
  imod (init0 m ρ) $$ [Hr HL] with HE
  · isplitl [Hr] <;> iassumption
  imodintro
  iapply (sep_zip (F := F) (fun c : Dev nD => StableHlo.held (c : Thread nD τ) (Pipeline.ucRefs τ sig) (V0 m c)) (E m 0))
  isplitl [Hh] <;> iassumption

end Init

section Run

variable (m : (ℓ : Loc nD τ sig) → Buf (Elt F) ℓ) (ρ : Dev nD → PrngReg)

/-- What a device ends with. -/
def Tn (c : Dev nD) : sProp 𝕄 := iprop(StableHlo.held (c : Thread nD τ) (Pipeline.ucRefs τ sig) (V5 m (outs m) c) ∗ Tk2 c)

theorem last_step (c : Dev nD) : iprop(StableHlo.held (c : Thread nD τ) (Pipeline.ucRefs τ sig) (V5 m (outs m) c) ∗ E m 2 c)
    ⊢ iprop(Tn m c ∗ ∃ W, owes (c.tc : Thread nD τ) (0 : CellTallies nD τ sig ℕ) W) := by
  show iprop(_ ∗ ((∃ r, prngReg c r) ∗ Tk2 c ∗ ∃ W, owes (c : Thread nD τ) (0 : CellTallies nD τ sig ℕ) W)) ⊢ _
  unfold Tn
  iintro ⟨Hh, -, HT, HO⟩
  isplitr [HO]
  · isplitl [Hh] <;> iassumption
  iexact HO

set_option backward.isDefEq.respectTransparency.types false in
/-- THE RUN: from any memory with zero counters every weakly fair execution of @main on the thirty-two devices ends, each argument as launched,
    the result as computed from the launch memory, every counter of the machine at zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v32) = V5 m (outs m) c main_v32) ∧ r.2.sem = fun _ => 0) := by
  refine Pipeline.θ_run_regions_kit_dev_sems (pcfgs (F := F)) adm (pdats m) 0 cellOf_inj EP defs₀ 𝒱₀ LL LV m ρ main
    (segs m (outs m) 𝒱₀ LL LV (E m) 0 (pdats m) (reg0 m) (reg1 m))
    (fun c Q => by
      rewrite [main_chain c, Pipeline.Seg.run_eq_chain,
        show (segs m (outs m) 𝒱₀ LL LV (E m) 0 (pdats m) (reg0 m) (reg1 m) c).map Pipeline.Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := fun c => owed allDue c) (hL := SiteBlocks.hL NL) (G := G (F := F)) (u₀ := u₀ (F := F))
    (hu₀ := ?_)
    (T₀ := fun c => iprop(StableHlo.held (c : Thread nD τ) (Pipeline.ucRefs τ sig) (V0 m c) ∗ E m 0 c)) (Tₙ := Tn m)
    (hch := fun c => ⟨.rfl, reg0_pre m c, reg0_post m c, reg1_pre m c, reg1_post m c, last_step m c⟩)
    (hinit := init m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v32) = V5 m (outs m) c main_v32) ∧ (s.sem (C c sBar0) = 0 ∧ s.sem (C c sBar1) = 0))
    (hfin := fun c s' => ?_)
    (hQ := fun s h hs => ⟨fun c => (h c).1, sem_eq_zero hs fun c sm hsm => by
      rcases unscoped_eq sm hsm with rfl | rfl
      · exact (h c).2.1
      · exact (h c).2.2⟩)
  · unfold u₀
    iintro Hu
    ihave H := (ownU_pair _ _) $$ Hu
    icases H with ⟨HP, HX⟩
    ihave HX := (own_pair_emb embR _ _) $$ HX
    imodintro
    isplitl [HP]; · iexact HP
    rw [G_all]; unfold ringG ER ES; iexact HX
  · unfold Tn Tk2 StableHlo.held
    iintro ⟨⟨Hh, Hb0, Hb1⟩, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    icombine HSI Hb0 gives %hb0
    icombine HSI Hb1 gives %hb1
    imodintro
    isplitr
    · ipureintro
      exact ⟨⟨⟨(h (Proc.devRef .tc main_arg0) (uc_mem main_arg0 (by decide))).trans (V5_main_arg0 m (outs m) c),
        (h (Proc.devRef .tc main_arg1) (uc_mem main_arg1 (by decide))).trans (V5_main_arg1 m (outs m) c),
        (h (Proc.devRef .tc main_arg2) (uc_mem main_arg2 (by decide))).trans (V5_main_arg2 m (outs m) c),
        (h (Proc.devRef .tc main_arg3) (uc_mem main_arg3 (by decide))).trans (V5_main_arg3 m (outs m) c),
        (h (Proc.devRef .tc main_arg4) (uc_mem main_arg4 (by decide))).trans (V5_main_arg4 m (outs m) c)⟩,
        h (Proc.devRef .tc main_v32) (uc_mem main_v32 (by decide))⟩, by simpa using hb0, by simpa using hb1⟩
    · iexact HSI

end Run

end Cert.K
-- ==== Proof.Attn.lean ====
/-
  The attention, read at an index: each step of a device's part is the part that its heads have of the reference's step.
-/
module

public import proofs.«01_k».proof.Proof.Gen.KernelIdeal
public import proofs.«01_k».proof.Proof.Gen.ReferenceIdeal
public import Idealize.ShloMosaic.Lib.Pointwise

@[expose] public section

noncomputable section

namespace Cert.A

open Idealize.ShloMosaic

/-! ## A device's steps -/

section Device
open Cert.KernelIdeal Cert.KernelIdeal.Gen

/-- The projection of the rows by a device's columns, a head at a time; -/
def proj (x : FVec Ideal S32x512x1024 .bf16) (w : FVec Ideal S1024x1024 .bf16) : FVec Ideal S32x512x8x128 .bf16 :=
  shapeCast _ (truncf .bf16 (Host.dotGeneral dot_S32x512x1024_S1024x1024_S32x512x1024_2_0_01_1_n_n none x w) bitsLt_bf16_f32) shapeCasts_S32x512x1024_S32x512x8x128
/-- the scaled scores; -/
def scores (q k : FVec Ideal S32x512x8x128 .bf16) : FVec Ideal S32x8x512x512 .f32 :=
  mulf (Host.dotGeneral dot_S32x512x8x128_S32x512x8x128_S32x8x512x512_3_3_1_1_02_02 none q k)
    (broadcastInDim S32x8x512x512 ![] bcast_S_S32x8x512x512 (constant S_ .f32 0x3DB504F3#32))
/-- the exponentials of what they lie below the row's greatest; -/
def weights (s : FVec Ideal S32x8x512x512 .f32) : FVec Ideal S32x8x512x512 .f32 :=
  Host.exp (subf s (broadcastInDim S32x8x512x512 ![0, 1, 2, 3] bcast_S32x8x512x1_S32x8x512x512_0_1_2_3
    (broadcastInDim S32x8x512x1 ![0, 1, 2] bcast_S32x8x512_S32x8x512x1_0_1_2
      (Host.reduce FloatOps.maximumf s (constant S_ .f32 0xFF800000#32) reducesTo_S32x8x512x512_S32x8x512_d3 h_S_))))
/-- the weighted means; -/
def means (v : FVec Ideal S32x512x8x128 .bf16) (p : FVec Ideal S32x8x512x512 .f32) : FVec Ideal S32x512x1024 .bf16 :=
  truncf .bf16 (shapeCast _ (Host.divf
    (transpose S32x512x8x128 [0, 3, 1, 2] (Host.dotGeneral dot_S32x512x8x128_S32x8x512x512_S32x8x128x512_1_3_3_2_02_01 none v (truncf .bf16 p bitsLt_bf16_f32)) transposes_S32x8x128x512_S32x512x8x128_0_3_1_2)
    (broadcastInDim S32x512x8x128 ![0, 1, 2, 3] bcast_S32x512x8x1_S32x512x8x128_0_1_2_3
      (transpose S32x512x8x1 [0, 2, 1, 3] (broadcastInDim S32x8x512x1 ![0, 1, 2] bcast_S32x8x512_S32x8x512x1_0_1_2
        (Host.reduceAdd p (constant S_ .f32 0x00000000#32) reducesTo_S32x8x512x512_S32x8x512_d3 h_S_)) transposes_S32x8x512x1_S32x512x8x1_0_2_1_3)))
    shapeCasts_S32x512x8x128_S32x512x1024) bitsLt_bf16_f32
/-- and their projection by a device's rows. -/
def back (o : FVec Ideal S32x512x1024 .bf16) (w : FVec Ideal S1024x1024 .bf16) : FVec Ideal S32x512x1024 .f32 :=
  Host.dotGeneral dot_S32x512x1024_S1024x1024_S32x512x1024_2_0_01_1_n_n none o w
/-- A device's partial sums. -/
def part (x : FVec Ideal S32x512x1024 .bf16) (wq wk wv wo : FVec Ideal S1024x1024 .bf16) : FVec Ideal S32x512x1024 .f32 :=
  back (means (proj x wv) (weights (scores (proj x wq) (proj x wk)))) wo

theorem proj_at (x : FVec Ideal S32x512x1024 .bf16) (w : FVec Ideal S1024x1024 .bf16) (b : Fin 32) (s : Fin 512) (h : Fin 8) (e : Fin 128) :
    proj x w (ix4 b s h e) = ∑ k : Fin 1024, x (ix3 b s k) * w (ix2 k ⟨h.val * 128 + e.val, by omega⟩) := by
  pointwise [proj]

theorem scores_at (q k : FVec Ideal S32x512x8x128 .bf16) (b : Fin 32) (h : Fin 8) (i j : Fin 512) :
    scores q k (ix4 b h i j) = (∑ e : Fin 128, q (ix4 b i h e) * k (ix4 b j h e)) * Ideal.ofBits .f32 0x3DB504F3#32 := by
  pointwise [scores]

theorem weights_at (s : FVec Ideal S32x8x512x512 .f32) (b : Fin 32) (h : Fin 8) (i j : Fin 512) :
    weights s (ix4 b h i j) = Ideal.exp (s (ix4 b h i j) - Finset.univ.fold max (Ideal.ofBits .f32 0xFF800000#32) fun x => s (ix4 b h i x)) := by
  pointwise [weights]

theorem means_at (v : FVec Ideal S32x512x8x128 .bf16) (p : FVec Ideal S32x8x512x512 .f32) (b : Fin 32) (i : Fin 512) (k : Fin 1024) :
    means v p (ix3 b i k) = Ideal.div (∑ x : Fin 512, v (ix4 b x ⟨k.val / 128, by omega⟩ ⟨k.val % 128, by omega⟩) * p (ix4 b ⟨k.val / 128, by omega⟩ i x))
      (∑ x : Fin 512, p (ix4 b ⟨k.val / 128, by omega⟩ i x)) := by
  pointwise [means]

theorem back_at (o : FVec Ideal S32x512x1024 .bf16) (w : FVec Ideal S1024x1024 .bf16) (b : Fin 32) (s : Fin 512) (n : Fin 1024) :
    back o w (ix3 b s n) = ∑ k : Fin 1024, o (ix3 b s k) * w (ix2 k n) := by
  pointwise [back]

end Device

/-! ## The reference's steps -/

section Reference
open Cert.ReferenceIdeal Cert.ReferenceIdeal.Gen

/-- The same of all heads: the projection, -/
def Proj (x : FVec Ideal S32x512x1024 .bf16) (w : FVec Ideal S1024x32768 .bf16) : FVec Ideal S32x512x256x128 .f32 :=
  shapeCast _ (Host.dotGeneral dot_S32x512x1024_S1024x32768_S32x512x32768_2_0_01_1_n_n none (extf .f32 x bitsLt_bf16_f32) (extf .f32 w bitsLt_bf16_f32)) shapeCasts_S32x512x32768_S32x512x256x128
/-- the scaled scores, -/
def Scores (q k : FVec Ideal S32x512x256x128 .f32) : FVec Ideal S32x256x512x512 .f32 :=
  mulf (Host.dotGeneral dot_S32x512x256x128_S32x512x256x128_S32x256x512x512_3_3_1_1_02_02 none q k)
    (broadcastInDim S32x256x512x512 ![] bcast_S_S32x256x512x512 (constant S_ .f32 0x3DB504F3#32))
/-- the exponentials, -/
def Weights (s : FVec Ideal S32x256x512x512 .f32) : FVec Ideal S32x256x512x512 .f32 :=
  Host.exp (subf s (broadcastInDim S32x256x512x512 ![0, 1, 2, 3] bcast_S32x256x512x1_S32x256x512x512_0_1_2_3
    (broadcastInDim S32x256x512x1 ![0, 1, 2] bcast_S32x256x512_S32x256x512x1_0_1_2
      (Host.reduce FloatOps.maximumf s (constant S_ .f32 0xFF800000#32) reducesTo_S32x256x512x512_S32x256x512_d3 h_S_))))
/-- the weighted means, -/
def Means (v : FVec Ideal S32x512x256x128 .f32) (p : FVec Ideal S32x256x512x512 .f32) : FVec Ideal S32x512x32768 .f32 :=
  shapeCast _ (Host.divf
    (transpose S32x512x256x128 [0, 3, 1, 2] (Host.dotGeneral dot_S32x512x256x128_S32x256x512x512_S32x256x128x512_1_3_3_2_02_01 none v p) transposes_S32x256x128x512_S32x512x256x128_0_3_1_2)
    (broadcastInDim S32x512x256x128 ![0, 1, 2, 3] bcast_S32x512x256x1_S32x512x256x128_0_1_2_3
      (transpose S32x512x256x1 [0, 2, 1, 3] (broadcastInDim S32x256x512x1 ![0, 1, 2] bcast_S32x256x512_S32x256x512x1_0_1_2
        (Host.reduceAdd p (constant S_ .f32 0x00000000#32) reducesTo_S32x256x512x512_S32x256x512_d3 h_S_)) transposes_S32x256x512x1_S32x512x256x1_0_2_1_3)))
    shapeCasts_S32x512x256x128_S32x512x32768
/-- and the projection back. -/
def Back (o : FVec Ideal S32x512x32768 .f32) (w : FVec Ideal S32768x1024 .bf16) : FVec Ideal S32x512x1024 .f32 :=
  Host.dotGeneral dot_S32x512x32768_S32768x1024_S32x512x1024_2_0_01_1_n_n none o (extf .f32 w bitsLt_bf16_f32)
/-- The whole attention. -/
def whole (x : FVec Ideal S32x512x1024 .bf16) (wq wk wv : FVec Ideal S1024x32768 .bf16) (wo : FVec Ideal S32768x1024 .bf16) : FVec Ideal S32x512x1024 .f32 :=
  Back (Means (Proj x wv) (Weights (Scores (Proj x wq) (Proj x wk)))) wo

theorem Proj_at (x : FVec Ideal S32x512x1024 .bf16) (w : FVec Ideal S1024x32768 .bf16) (b : Fin 32) (s : Fin 512) (h : Fin 256) (e : Fin 128) :
    Proj x w (ix4 b s h e) = ∑ k : Fin 1024, x (ix3 b s k) * w (ix2 k ⟨h.val * 128 + e.val, by omega⟩) := by
  pointwise [Proj]

theorem Scores_at (q k : FVec Ideal S32x512x256x128 .f32) (b : Fin 32) (h : Fin 256) (i j : Fin 512) :
    Scores q k (ix4 b h i j) = (∑ e : Fin 128, q (ix4 b i h e) * k (ix4 b j h e)) * Ideal.ofBits .f32 0x3DB504F3#32 := by
  pointwise [Scores]

theorem Weights_at (s : FVec Ideal S32x256x512x512 .f32) (b : Fin 32) (h : Fin 256) (i j : Fin 512) :
    Weights s (ix4 b h i j) = Ideal.exp (s (ix4 b h i j) - Finset.univ.fold max (Ideal.ofBits .f32 0xFF800000#32) fun x => s (ix4 b h i x)) := by
  pointwise [Weights]

theorem Means_at (v : FVec Ideal S32x512x256x128 .f32) (p : FVec Ideal S32x256x512x512 .f32) (b : Fin 32) (i : Fin 512) (k : Fin 32768) :
    Means v p (ix3 b i k) = Ideal.div (∑ x : Fin 512, v (ix4 b x ⟨k.val / 128, by omega⟩ ⟨k.val % 128, by omega⟩) * p (ix4 b ⟨k.val / 128, by omega⟩ i x))
      (∑ x : Fin 512, p (ix4 b ⟨k.val / 128, by omega⟩ i x)) := by
  pointwise [Means]

theorem Back_at (o : FVec Ideal S32x512x32768 .f32) (w : FVec Ideal S32768x1024 .bf16) (b : Fin 32) (s : Fin 512) (n : Fin 1024) :
    Back o w (ix3 b s n) = ∑ k : Fin 32768, o (ix3 b s k) * w (ix2 k n) := by
  pointwise [Back]

end Reference

/-! ## A device's part of each -/

/-- Head `h` of device `c` among all heads; -/
def hd (c : Fin 32) (h : Fin 8) : Fin 256 := ⟨c.val * 8 + h.val, by omega⟩
/-- column `k` of a device among all columns. -/
def col (c : Fin 32) (k : Fin 1024) : Fin 32768 := ⟨c.val * 1024 + k.val, by omega⟩

section Parts
open Cert.KernelIdeal

variable (c : Fin 32) (x : FVec Ideal S32x512x1024 .bf16)

theorem proj_part (w : FVec Ideal S1024x1024 .bf16) (W : FVec Ideal Cert.ReferenceIdeal.S1024x32768 .bf16)
    (hw : ∀ k l, w (ix2 k l) = W (ix2 k (col c l))) (b : Fin 32) (s : Fin 512) (h : Fin 8) (e : Fin 128) :
    proj x w (ix4 b s h e) = Proj x W (ix4 b s (hd c h) e) := by
  rw [proj_at, Proj_at]
  refine Finset.sum_congr rfl fun k _ => ?_
  rw [hw]
  refine congrArg (fun l => _ * W (ix2 k l)) (Fin.ext ?_)
  show c.val * 1024 + (h.val * 128 + e.val) = (c.val * 8 + h.val) * 128 + e.val
  omega

theorem scores_part (q k : FVec Ideal S32x512x8x128 .bf16) (Q K : FVec Ideal Cert.ReferenceIdeal.S32x512x256x128 .f32)
    (hq : ∀ b s h e, q (ix4 b s h e) = Q (ix4 b s (hd c h) e)) (hk : ∀ b s h e, k (ix4 b s h e) = K (ix4 b s (hd c h) e))
    (b : Fin 32) (h : Fin 8) (i j : Fin 512) : scores q k (ix4 b h i j) = Scores Q K (ix4 b (hd c h) i j) := by
  rw [scores_at, Scores_at]; simp only [hq, hk]

theorem weights_part (s : FVec Ideal S32x8x512x512 .f32) (S : FVec Ideal Cert.ReferenceIdeal.S32x256x512x512 .f32)
    (hs : ∀ b h i j, s (ix4 b h i j) = S (ix4 b (hd c h) i j)) (b : Fin 32) (h : Fin 8) (i j : Fin 512) :
    weights s (ix4 b h i j) = Weights S (ix4 b (hd c h) i j) := by
  rw [weights_at, Weights_at]; simp only [hs]

theorem means_part (v : FVec Ideal S32x512x8x128 .bf16) (p : FVec Ideal S32x8x512x512 .f32)
    (V : FVec Ideal Cert.ReferenceIdeal.S32x512x256x128 .f32) (P : FVec Ideal Cert.ReferenceIdeal.S32x256x512x512 .f32)
    (hv : ∀ b s h e, v (ix4 b s h e) = V (ix4 b s (hd c h) e)) (hp : ∀ b h i j, p (ix4 b h i j) = P (ix4 b (hd c h) i j))
    (b : Fin 32) (i : Fin 512) (k : Fin 1024) : means v p (ix3 b i k) = Means V P (ix3 b i (col c k)) := by
  have e1 : (⟨(col c k).val / 128, by have := (col c k).isLt; omega⟩ : Fin 256) = hd c ⟨k.val / 128, by omega⟩ :=
    Fin.ext (by show (c.val * 1024 + k.val) / 128 = c.val * 8 + k.val / 128; omega)
  have e2 : (⟨(col c k).val % 128, by omega⟩ : Fin 128) = ⟨k.val % 128, by omega⟩ :=
    Fin.ext (by show (c.val * 1024 + k.val) % 128 = k.val % 128; omega)
  rw [means_at, Means_at, e1, e2]; simp only [hv, hp]

/-- The reference's sum over all columns is the sum over the devices of their partial sums. -/
theorem whole_parts (wq wk wv wo : Fin 32 → FVec Ideal S1024x1024 .bf16)
    (Wq Wk Wv : FVec Ideal Cert.ReferenceIdeal.S1024x32768 .bf16) (Wo : FVec Ideal Cert.ReferenceIdeal.S32768x1024 .bf16)
    (hq : ∀ c k l, wq c (ix2 k l) = Wq (ix2 k (col c l))) (hk : ∀ c k l, wk c (ix2 k l) = Wk (ix2 k (col c l)))
    (hv : ∀ c k l, wv c (ix2 k l) = Wv (ix2 k (col c l))) (ho : ∀ c k l, wo c (ix2 k l) = Wo (ix2 (col c k) l))
    (b : Fin 32) (s : Fin 512) (n : Fin 1024) :
    whole x Wq Wk Wv Wo (ix3 b s n) = ∑ d : Fin 32, part x (wq d) (wk d) (wv d) (wo d) (ix3 b s n) := by
  unfold whole part
  rw [Back_at, Fin.sum_univ_tiles 32 1024 rfl]
  refine Finset.sum_congr rfl fun d _ => ?_
  rw [back_at]
  refine Finset.sum_congr rfl fun k _ => ?_
  rw [means_part d _ _ _ _ (proj_part d x _ Wv (hv d))
    (weights_part d _ _ (scores_part d _ _ _ _ (proj_part d x _ Wq (hq d)) (proj_part d x _ Wk (hk d)))) b s k, ho]
  rfl

end Parts

end Cert.A
-- ==== Proof.Value.lean ====
/-
  What the kernel's result holds: each device's block of the reference's.
-/
module

public import proofs.«01_k».proof.Proof.Attn
public import proofs.«01_k».proof.Proof.Vals
public import Idealize.ShloMosaic.Lib.Layout
public import Idealize.ShloMosaic.Lib.StableHlo.Run
public import Idealize.ShloMosaic.Lib.Pointwise

@[expose] public section

noncomputable section

namespace Cert.K

open Cert.KernelIdeal Cert.KernelIdeal.Gen
open Idealize.ShloMosaic Idealize.ShloMosaic.TcCoe Idealize.ShloMosaic.StableHlo

/-! ## The ring's sum -/

/-- At hop `h` a device holds the sum over itself and the `h` devices to its left, of the row that is on its way. -/
theorem acc_sum (P : Dev nD → FVec Ideal S32x512x1024 .f32) (i : Fin 512) (j : Fin 1024) (h : ℕ) (hh : h ≤ 31) (c : Dev nD) :
    acc (F := Ideal) P h c (ix2 i j) = ∑ k ∈ Finset.range (h + 1), P (rowIx c k) (ix3 (rowIx c (h + 1)) i j) := by
  induction h generalizing c with
  | zero => rw [Finset.sum_range_one, show rowIx c 0 = c from Fin.ext (rowIx_zero c)]; rfl
  | succ h ih =>
    have e : acc (F := Ideal) P (h + 1) c (ix2 i j) = acc (F := Ideal) P h (prv c) (ix2 i j) + P c (ix3 (rowIx c (h + 2)) i j) := rfl
    rw [e, ih (by omega), rowIx_prv c (h + 1) (by omega), Finset.sum_range_succ' _ (h + 1), show rowIx c 0 = c from Fin.ext (rowIx_zero c)]
    refine congrArg (· + _) (Finset.sum_congr rfl fun k hk => ?_)
    rw [rowIx_prv c k (by have := Finset.mem_range.1 hk; omega)]

theorem rowIx_inj (c : Dev nD) : Function.Injective fun k : Fin 32 => (rowIx c k.val : Fin 32) := by
  intro a b hab
  have h := congrArg Fin.val hab
  have hc : c.val < 32 := c.isLt
  have ha := a.isLt; have hb := b.isLt
  have h' : (c.val + 64 - a.val) % 32 = (c.val + 64 - b.val) % 32 := h
  exact Fin.ext (by omega)

/-- After the last hop it holds its own row of the sum over all. -/
theorem acc_all (P : Dev nD → FVec Ideal S32x512x1024 .f32) (i : Fin 512) (j : Fin 1024) (c : Dev nD) :
    acc (F := Ideal) P 31 c (ix2 i j) = ∑ d : Fin 32, P d (ix3 (c : Fin 32) i j) := by
  have e : rowIx c 32 = (c : Fin 32) := Fin.ext (by have : c.val < 32 := c.isLt; show (c.val + 64 - 32) % 32 = c.val; omega)
  rw [acc_sum P i j 31 le_rfl c, Finset.sum_range, e]
  exact Fintype.sum_bijective (fun k : Fin 32 => (rowIx c k.val : Fin 32))
    ((Fintype.bijective_iff_injective_and_card _).2 ⟨rowIx_inj c, rfl⟩) _ _ fun _ => rfl

/-! ## The host's steps -/

variable (m : (ℓ : Loc nD τ sig) → Buf (Elt Ideal) ℓ)

theorem U2_arg (c : Dev nD) (r : Ref sig .tc) (h2 : (Proc.devRef (τ := τ) .tc r) ≠ Proc.devRef .tc main_v2)
    (h1 : V1 m c (Proc.devRef .tc r) = V0 m c (Proc.devRef .tc r)) : U2 m c (Proc.devRef .tc r) = m ((c.tc : Thread nD τ).loc r) :=
  (U2_of m c _ h2).trans h1

/-- A device's partial sums are its part of the attention. -/
theorem PP_eq (c : Dev nD) : PP m c = Cert.A.part (gath (F := Ideal) (e := .bf16) (xs m)) (m ((c.tc : Thread nD τ).loc main_arg1))
    (m ((c.tc : Thread nD τ).loc main_arg2)) (m ((c.tc : Thread nD τ).loc main_arg3)) (m ((c.tc : Thread nD τ).loc main_arg4)) := by
  have e1 := U2_arg m c main_arg1 (by decide) (by unfold V1; after_results_simp)
  have e2 := U2_arg m c main_arg2 (by decide) (by unfold V1; after_results_simp)
  have e3 := U2_arg m c main_arg3 (by decide) (by unfold V1; after_results_simp)
  have e4 := U2_arg m c main_arg4 (by decide) (by unfold V1; after_results_simp)
  unfold PP U3
  after_results_simp
  rw [U2_v2, e1, e2, e3, e4]
  rfl

theorem row_at (v : FVec Ideal S1x512x1024 .bf16) (i : Fin 512) (k : Fin 1024) :
    shapeCast S512x1024 v shapeCasts_S1x512x1024_S512x1024 (ix2 i k) = v (ix3 0 i k) := by
  pointwise
theorem unrow_at (v : FVec Ideal S512x1024 .f32) (i : Fin 512) (k : Fin 1024) :
    shapeCast S1x512x1024 v shapeCasts_S512x1024_S1x512x1024 (ix3 0 i k) = v (ix2 i k) := by
  pointwise

theorem xs_at (c : Dev nD) (i : Fin 512) (k : Fin 1024) : xs m c (ix2 i k) = (m ((c.tc : Thread nD τ).loc main_arg0) : FVec Ideal S1x512x1024 .bf16) (ix3 0 i k) := by
  unfold xs V1
  after_results_simp
  exact row_at _ i k

theorem out_at (c : Dev nD) (i : Fin 512) (k : Fin 1024) :
    (V5 m (outs m) c main_v32 : FVec Ideal S1x512x1024 .f32) (ix3 0 i k) = ∑ d : Fin 32, PP m d (ix3 (c : Fin 32) i k) := by
  unfold V5
  after_results_simp
  rw [V4_eq, U4_v31]
  exact (unrow_at _ i k).trans (acc_all (PP m) i k c)

/-! ## Blocks of the reference's arrays -/

theorem rows3_at {e : Type} (c : Fin 32) (v : Cert.ReferenceIdeal.S32x512x1024.Idx → e) (i : Fin 512) (k : Fin 1024) :
    Layout.block ⟨3, ![1, 512, 1024]⟩ ⟨3, ![32, 512, 1024]⟩ 0 32 c v (by decide) (ix3 0 i k) = v (ix3 c i k) := by
  refine congrArg v (funext fun a => Fin.ext ?_)
  fin_cases a
  · show c.val * 1 + 0 = c.val; omega
  · rfl
  · rfl
theorem cols_at {e : Type} (c : Fin 32) (v : Cert.ReferenceIdeal.S1024x32768.Idx → e) (k l : Fin 1024) :
    Layout.block ⟨2, ![1024, 1024]⟩ ⟨2, ![1024, 32768]⟩ 1 32 c v (by decide) (ix2 k l) = v (ix2 k (Cert.A.col c l)) :=
  congrArg v (funext fun a => Fin.ext (by fin_cases a <;> rfl))
theorem rows_at {e : Type} (c : Fin 32) (v : Cert.ReferenceIdeal.S32768x1024.Idx → e) (k l : Fin 1024) :
    Layout.block ⟨2, ![1024, 1024]⟩ ⟨2, ![32768, 1024]⟩ 0 32 c v (by decide) (ix2 k l) = v (ix2 (Cert.A.col c k) l) :=
  congrArg v (funext fun a => Fin.ext (by fin_cases a <;> rfl))

/-- Each device ends with its rows of the reference's attention. -/
theorem result_block (x : FVec Ideal Cert.ReferenceIdeal.S32x512x1024 .bf16) (Wq Wk Wv : FVec Ideal Cert.ReferenceIdeal.S1024x32768 .bf16)
    (Wo : FVec Ideal Cert.ReferenceIdeal.S32768x1024 .bf16)
    (h : ∀ c : Dev nD, m ((c.tc : Thread nD τ).loc main_arg0) = Layout.block ⟨3, ![1, 512, 1024]⟩ ⟨3, ![32, 512, 1024]⟩ 0 32 c x
      ∧ m ((c.tc : Thread nD τ).loc main_arg1) = Layout.block ⟨2, ![1024, 1024]⟩ ⟨2, ![1024, 32768]⟩ 1 32 c Wq
      ∧ m ((c.tc : Thread nD τ).loc main_arg2) = Layout.block ⟨2, ![1024, 1024]⟩ ⟨2, ![1024, 32768]⟩ 1 32 c Wk
      ∧ m ((c.tc : Thread nD τ).loc main_arg3) = Layout.block ⟨2, ![1024, 1024]⟩ ⟨2, ![1024, 32768]⟩ 1 32 c Wv
      ∧ m ((c.tc : Thread nD τ).loc main_arg4) = Layout.block ⟨2, ![1024, 1024]⟩ ⟨2, ![32768, 1024]⟩ 0 32 c Wo) (c : Dev nD) :
    V5 m (outs m) c main_v32 = Layout.block ⟨3, ![1, 512, 1024]⟩ ⟨3, ![32, 512, 1024]⟩ 0 32 c (Cert.A.whole x Wq Wk Wv Wo) := by
  have hx : (gath (F := Ideal) (e := .bf16) (xs m) : FVec Ideal S32x512x1024 .bf16) = x := by
    funext i
    obtain ⟨a, b, k, rfl⟩ : ∃ a b k, i = ix3 a b k := ⟨_, _, _, eq_ix3 i⟩
    have e : gath (F := Ideal) (e := .bf16) (xs m) (ix3 a b k) = xs m a (ix2 b k) := by
      show xs m a (ValueIdx.ix2 b k) = _
      rw [ix2_eq_valueIdx]
    rw [e, xs_at, (h a).1]
    exact rows3_at a x b k
  funext i
  obtain ⟨a, b, k, rfl⟩ : ∃ (a : Fin 1) (b : Fin 512) (k : Fin 1024), i = ix3 a b k := ⟨_, _, _, eq_ix3 i⟩
  obtain rfl : a = 0 := Subsingleton.elim _ _
  have hs := Cert.A.whole_parts x
    (fun d : Dev nD => m ((d.tc : Thread nD τ).loc main_arg1)) (fun d : Dev nD => m ((d.tc : Thread nD τ).loc main_arg2))
    (fun d : Dev nD => m ((d.tc : Thread nD τ).loc main_arg3)) (fun d : Dev nD => m ((d.tc : Thread nD τ).loc main_arg4)) Wq Wk Wv Wo
    (fun d k l => (congrFun (h d).2.1 _).trans (cols_at d Wq k l)) (fun d k l => (congrFun (h d).2.2.1 _).trans (cols_at d Wk k l))
    (fun d k l => (congrFun (h d).2.2.2.1 _).trans (cols_at d Wv k l)) (fun d k l => (congrFun (h d).2.2.2.2 _).trans (rows_at d Wo k l)) c b k
  refine (out_at m c b k).trans (Eq.trans ?_ (hs.symm.trans (rows3_at c (Cert.A.whole x Wq Wk Wv Wo) b k).symm))
  simp only [PP_eq, hx]

end Cert.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs' kernel bodies are the same text. -/
theorem bodies_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨1, _⟩, (t, s) => rfl

theorem defs_eq : Cert.Kernel.defs (F := Bits) = Cert.KernelIdeal.defs (F := Bits) :=
  congrArg (fun d => Pipeline.defs (Cert.KernelIdeal.pcfgs (F := Bits)) d) bodies_eq

theorem frame_kernel : Cert.quiescent_Kernel (hKernel := Cert.Kernel.Gen.facts) := by
  intro m ρ _
  have h := (θ_run (Cert.KernelIdeal.defs (F := Bits)) (onTc (Cert.KernelIdeal.main (F := Bits))) _).mono
    (fun _ h => And.intro (fun c => (h.1 c).1) h.2) (Cert.K.run_main (F := Bits) m ρ)
  rw [defs_eq]
  exact h

theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.K.run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is its steps, one after another. -/
theorem reference_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m' c = Cert.A.whole
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := by
  show Cert.ReferenceIdeal.Value.res_main_v27 (F := Ideal) m' c = _
  unfold Cert.ReferenceIdeal.Value.res_main_v27
  rfl

theorem value : Cert.algebraic_KernelIdeal_ReferenceIdeal (hKernelIdeal := Cert.KernelIdeal.Gen.facts) (hReferenceIdeal := Cert.ReferenceIdeal.Gen.facts) := by
  intro m ρ m' ρ' _ h
  refine ⟨Cert.ReferenceIdeal.Value.res_out0 (F := Ideal) m' 0, ?_, ?_⟩
  · refine (θ_run Cert.KernelIdeal.defs _ _).mono (fun _ hr c => ⟨(hr.1 c).2.trans ?_, (hr.1 c).1⟩) (Cert.K.run_main (F := Ideal) m ρ)
    rw [reference_eq]
    exact Cert.K.result_block m _ _ _ _ _ h c
  · exact (θ_run Cert.ReferenceIdeal.defs _ _).mono (fun _ hr => hr 0) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, value⟩

end Cert.Proof

end
